-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 2048]⟩ ⟨2, ![4096, 2048]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S4096x512 : Shape := ⟨2, ![4096, 512]⟩
abbrev S3 : Shape := ⟨1, ![3]⟩
abbrev S_ : Shape := ⟨0, ![]⟩
abbrev S1 : Shape := ⟨1, ![1]⟩
abbrev S1024x512 : Shape := ⟨2, ![1024, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x2048, .bf16⟩
  | .hbm, ⟨1, _⟩ => ⟨S4096x512, .bf16⟩
  | .local _ .vmem, ⟨0, _⟩ => ⟨S1024x2048, .bf16⟩
  | .local _ .vmem, ⟨1, _⟩ => ⟨S4096x512, .bf16⟩
  | .local _ .vmem, ⟨2, _⟩ => ⟨S1024x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v78 : BitVec 32 := Scalar.muli v8 c1024_i32
  let c0_i32_53 : BitVec 32 := 0#32
  ![v78.toNat, 0]
def k0_off2 (d0 : Dev nD) (c1_i32_40 : BitVec 32) : Fin 2 → Nat :=
  let c0_i32_54 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.addi v8 c1_i32_40
  let c4_i32_41 : BitVec 32 := 4#32
  let c0_i32_42 : BitVec 32 := 0#32
  let v67 : BitVec 1 := Scalar.cmpi .eq c4_i32_41 c0_i32_42
  let c1_i32_43 : BitVec 32 := 1#32
  let v68 : BitVec 32 := Scalar.select v67 c1_i32_43 c4_i32_41
  let v69 : BitVec 32 := Scalar.remsi v66 v68
  let c0_i32_45 : BitVec 32 := 0#32
  let v71 : BitVec 1 := Scalar.cmpi .slt v69 c0_i32_45
  let c0_i32_46 : BitVec 32 := 0#32
  let v72 : BitVec 1 := Scalar.cmpi .slt v68 c0_i32_46
  let v73 : BitVec 1 := Scalar.xori v71 v72
  let c0_i32_44 : BitVec 32 := 0#32
  let v70 : BitVec 1 := Scalar.cmpi .ne v69 c0_i32_44
  let v74 : BitVec 1 := Scalar.andi v73 v70
  let v75 : BitVec 32 := Scalar.addi v69 v68
  let v76 : BitVec 32 := Scalar.select v74 v75 v69
  let c512_i32 : BitVec 32 := 512#32
  let v77 : BitVec 32 := Scalar.muli v76 c512_i32
  ![0, v77.toNat]
def k0_dev4 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v79 : BitVec 32 := Scalar.muli v2 c16_i32_49
  let v80 : BitVec 32 := Scalar.addi c0_i32_50 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v81 : BitVec 32 := Scalar.muli v5 c4_i32_51
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v66 : BitVec 32 := Scalar.addi v8 c1_i32_40
  let c4_i32_41 : BitVec 32 := 4#32
  let c0_i32_42 : BitVec 32 := 0#32
  let v67 : BitVec 1 := Scalar.cmpi .eq c4_i32_41 c0_i32_42
  let c1_i32_43 : BitVec 32 := 1#32
  let v68 : BitVec 32 := Scalar.select v67 c1_i32_43 c4_i32_41
  let v69 : BitVec 32 := Scalar.remsi v66 v68
  let c0_i32_45 : BitVec 32 := 0#32
  let v71 : BitVec 1 := Scalar.cmpi .slt v69 c0_i32_45
  let c0_i32_46 : BitVec 32 := 0#32
  let v72 : BitVec 1 := Scalar.cmpi .slt v68 c0_i32_46
  let v73 : BitVec 1 := Scalar.xori v71 v72
  let c0_i32_44 : BitVec 32 := 0#32
  let v70 : BitVec 1 := Scalar.cmpi .ne v69 c0_i32_44
  let v74 : BitVec 1 := Scalar.andi v73 v70
  let v75 : BitVec 32 := Scalar.addi v69 v68
  let v76 : BitVec 32 := Scalar.select v74 v75 v69
  let c1_i32_52 : BitVec 32 := 1#32
  let v83 : BitVec 32 := Scalar.muli v76 c1_i32_52
  let v84 : BitVec 32 := Scalar.addi v82 v83
  v84.toNat
def k0_dev5 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v104 : BitVec 32 := Scalar.muli v2 c16_i32_66
  let v105 : BitVec 32 := Scalar.addi c0_i32_67 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v106 : BitVec 32 := Scalar.muli v5 c4_i32_68
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_55 : BitVec 32 := 2#32
  let v91 : BitVec 32 := Scalar.addi v8 c2_i32_55
  let c4_i32_56 : BitVec 32 := 4#32
  let c0_i32_57 : BitVec 32 := 0#32
  let v92 : BitVec 1 := Scalar.cmpi .eq c4_i32_56 c0_i32_57
  let c1_i32_58 : BitVec 32 := 1#32
  let v93 : BitVec 32 := Scalar.select v92 c1_i32_58 c4_i32_56
  let v94 : BitVec 32 := Scalar.remsi v91 v93
  let c0_i32_60 : BitVec 32 := 0#32
  let v96 : BitVec 1 := Scalar.cmpi .slt v94 c0_i32_60
  let c0_i32_61 : BitVec 32 := 0#32
  let v97 : BitVec 1 := Scalar.cmpi .slt v93 c0_i32_61
  let v98 : BitVec 1 := Scalar.xori v96 v97
  let c0_i32_59 : BitVec 32 := 0#32
  let v95 : BitVec 1 := Scalar.cmpi .ne v94 c0_i32_59
  let v99 : BitVec 1 := Scalar.andi v98 v95
  let v100 : BitVec 32 := Scalar.addi v94 v93
  let v101 : BitVec 32 := Scalar.select v99 v100 v94
  let c1_i32_69 : BitVec 32 := 1#32
  let v108 : BitVec 32 := Scalar.muli v101 c1_i32_69
  let v109 : BitVec 32 := Scalar.addi v107 v108
  v109.toNat
def k0_dev6 (d0 : Dev nD) : Nat :=
  let c0_i32_84 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_83 : BitVec 32 := 16#32
  let v129 : BitVec 32 := Scalar.muli v2 c16_i32_83
  let v130 : BitVec 32 := Scalar.addi c0_i32_84 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v131 : BitVec 32 := Scalar.muli v5 c4_i32_85
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_72 : BitVec 32 := 3#32
  let v116 : BitVec 32 := Scalar.addi v8 c3_i32_72
  let c4_i32_73 : BitVec 32 := 4#32
  let c0_i32_74 : BitVec 32 := 0#32
  let v117 : BitVec 1 := Scalar.cmpi .eq c4_i32_73 c0_i32_74
  let c1_i32_75 : BitVec 32 := 1#32
  let v118 : BitVec 32 := Scalar.select v117 c1_i32_75 c4_i32_73
  let v119 : BitVec 32 := Scalar.remsi v116 v118
  let c0_i32_77 : BitVec 32 := 0#32
  let v121 : BitVec 1 := Scalar.cmpi .slt v119 c0_i32_77
  let c0_i32_78 : BitVec 32 := 0#32
  let v122 : BitVec 1 := Scalar.cmpi .slt v118 c0_i32_78
  let v123 : BitVec 1 := Scalar.xori v121 v122
  let c0_i32_76 : BitVec 32 := 0#32
  let v120 : BitVec 1 := Scalar.cmpi .ne v119 c0_i32_76
  let v124 : BitVec 1 := Scalar.andi v123 v120
  let v125 : BitVec 32 := Scalar.addi v119 v118
  let v126 : BitVec 32 := Scalar.select v124 v125 v119
  let c1_i32_86 : BitVec 32 := 1#32
  let v133 : BitVec 32 := Scalar.muli v126 c1_i32_86
  let v134 : BitVec 32 := Scalar.addi v132 v133
  v134.toNat
def k0_off3 (d0 : Dev nD) : Fin 2 → Nat :=
  let c0_90 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_89 : BitVec 32 := 512#32
  let v141 : BitVec 32 := Scalar.muli v8 c512_i32_89
  let v142 : Index := Scalar.indexCast v141
  ![0, v142.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_91 : BitVec 32 := 1024#32
  let v144 : BitVec 32 := Scalar.muli v8 c1024_i32_91
  let v145 : Index := Scalar.indexCast v144
  let c0_92 : Index := 0#32
  ![v145.toNat, 0]
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩

abbrev nBuf : Space → Nat
  | .hbm => 1
  | .vmem => 0
  | .smem => 0
  | _ => 0

abbrev bufTy : (tb : Table) → Fin (tcTables nBuf tb) → BufTy
  | .hbm, ⟨0, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Peers.lean ====
/-
# Which device talks to which

The 32 devices form a 2 × 4 × 4 mesh, numbered row-major, and the exchange runs inside each line of four devices
that differ only on the last axis `z`. So device `c` sits at position `c % 4` of the line that starts at device
`4 * (c / 4)`. This module names the device `k` places further round that line and reads the kernel's device
numbers and slice offsets in those terms.
-/
module

public import proofs.«01_k».proof.Proof.Gen.KernelIdeal

@[expose] public section

namespace Cert.AllToAll

open Cert.KernelIdeal Cert.KernelIdeal.Gen
open Idealize.ShloMosaic

/-- The device at position `z` of the line device `c` is on. -/
def onLine (c : Dev nD) (z : Fin 4) : Dev nD :=
  ⟨4 * (c.val / 4) + z.val, by
    have h := c.isLt
    have hz := z.isLt
    have hn : nD = 32 := rfl
    omega⟩

/-- The position of device `c` on its line. -/
def zOf (c : Dev nD) : Fin 4 := ⟨c.val % 4, Nat.mod_lt _ (by decide)⟩

/-- The device `k` places after `c` on its line, wrapping round. -/
def hop (k : Fin 4) (c : Dev nD) : Dev nD := onLine c (zOf c + k)

/-- The kernel's transfer number `j` goes `j + 1` places on. -/
def tgt (j : Fin 3) (c : Dev nD) : Dev nD := hop j.succ c

theorem zOf_val (c : Dev nD) : (zOf c).val = c.val % 4 := rfl

theorem zOf_onLine (c : Dev nD) (z : Fin 4) : zOf (onLine c z) = z :=
  Fin.ext (by rw [zOf_val]; show (4 * (c.val / 4) + z.val) % 4 = z.val; omega)

theorem onLine_zOf (c : Dev nD) : onLine c (zOf c) = c :=
  Fin.ext (show 4 * (c.val / 4) + c.val % 4 = c.val from Nat.div_add_mod _ _)

theorem onLine_onLine (c : Dev nD) (z z' : Fin 4) : onLine (onLine c z) z' = onLine c z' :=
  Fin.ext (by show 4 * ((4 * (c.val / 4) + z.val) / 4) + z'.val = 4 * (c.val / 4) + z'.val; omega)

theorem zOf_hop (k : Fin 4) (c : Dev nD) : zOf (hop k c) = zOf c + k := zOf_onLine _ _

theorem hop_hop (k k' : Fin 4) (c : Dev nD) : hop k' (hop k c) = hop (k + k') c := by
  unfold hop; rw [zOf_onLine, onLine_onLine, show zOf c + k + k' = zOf c + (k + k') from (by decide : ∀ a b d : Fin 4, a + b + d = a + (b + d)) _ _ _]

theorem hop_zero (c : Dev nD) : hop 0 c = c := by unfold hop; rw [show zOf c + 0 = zOf c from (by decide : ∀ a : Fin 4, a + 0 = a) _]; exact onLine_zOf c

theorem onLine_hop (k z : Fin 4) (c : Dev nD) : onLine (hop k c) z = onLine c z := onLine_onLine _ _ _

/-- Transfers `j` and `2 - j` are each other's way back: three and one place, or two and two. -/
theorem tgt_rev_tgt (j : Fin 3) (c : Dev nD) : tgt j.rev (tgt j c) = c := by
  unfold tgt
  rw [hop_hop, show j.succ + j.rev.succ = 0 by revert j; decide, hop_zero]

theorem tgt_tgt_rev (j : Fin 3) (c : Dev nD) : tgt j (tgt j.rev c) = c := by
  have h := tgt_rev_tgt j.rev c
  rwa [Fin.rev_rev] at h

/-- Going along transfer `j` permutes the devices. -/
def along (j : Fin 3) : Dev nD ≃ Dev nD := ⟨tgt j, tgt j.rev, tgt_rev_tgt j, tgt_tgt_rev j⟩

theorem tgt_eq_iff (j : Fin 3) (d c : Dev nD) : tgt j d = c ↔ d = tgt j.rev c :=
  ⟨fun h => by rw [← h, tgt_rev_tgt], fun h => by rw [h, tgt_tgt_rev]⟩

/-! ## The kernel's device numbers -/

theorem dev1_eq (c : Dev nD) : (⟨k0_dev1 c, k0_dev1_lt c⟩ : Dev nD) = tgt 0 c := by revert c; decide +kernel
theorem dev2_eq (c : Dev nD) : (⟨k0_dev2 c, k0_dev2_lt c⟩ : Dev nD) = tgt 1 c := by revert c; decide +kernel
theorem dev3_eq (c : Dev nD) : (⟨k0_dev3 c, k0_dev3_lt c⟩ : Dev nD) = tgt 2 c := by revert c; decide +kernel
theorem dev4_eq (c : Dev nD) : (⟨k0_dev4 c, k0_dev4_lt c⟩ : Dev nD) = tgt 0 c := by revert c; decide +kernel
theorem dev5_eq (c : Dev nD) : (⟨k0_dev5 c, k0_dev5_lt c⟩ : Dev nD) = tgt 1 c := by revert c; decide +kernel
theorem dev6_eq (c : Dev nD) : (⟨k0_dev6 c, k0_dev6_lt c⟩ : Dev nD) = tgt 2 c := by revert c; decide +kernel

/-! ## The kernel's slice offsets, axis by axis -/

/-- Where device `c`'s rows start in every result. -/
theorem off1_rows (c : Dev nD) : k0_off1 c 0 = 1024 * (zOf c).val := by revert c; decide +kernel
theorem off1_cols (c : Dev nD) : k0_off1 c 1 = 0 := by revert c; decide +kernel
theorem off4_rows (c : Dev nD) : k0_off4 c 0 = 1024 * (zOf c).val := by revert c; decide +kernel
theorem off4_cols (c : Dev nD) : k0_off4 c 1 = 0 := by revert c; decide +kernel

/-- Which columns of its own array device `c` sends by transfer `j`: its target's. -/
theorem off2_rows (c : Dev nD) (j : Fin 3) : k0_off2 c (BitVec.ofNat 32 (1 + j.val)) 0 = 0 := by revert c j; decide +kernel
theorem off2_cols (c : Dev nD) (j : Fin 3) : k0_off2 c (BitVec.ofNat 32 (1 + j.val)) 1 = 512 * (zOf (tgt j c)).val := by
  revert c j; decide +kernel
theorem off3_rows (c : Dev nD) : k0_off3 c 0 = 0 := by revert c; decide +kernel
theorem off3_cols (c : Dev nD) : k0_off3 c 1 = 512 * (zOf c).val := by revert c; decide +kernel

end Cert.AllToAll
-- ==== Proof.Blocks.lean ====
/-
# How the buffers are cut, and what each piece ends up holding

Every result buffer (4096 rows, 512 columns) is cut by rows into four blocks of 1024, one per position of the
line; every copy of a device's argument (1024 rows, 2048 columns) is cut by columns into four blocks of 512. Transfer
`j` of device `c` copies the column block of its target into row block `zOf c` of the target's result. This module
names the blocks, says which block each slice of the kernel is, and computes what a copied block holds.
-/
module

public import proofs.«01_k».proof.Proof.Peers
public import Idealize.ShloMosaic.Lib.Ring
public import Idealize.ShloMosaic.Lib.Tactic

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The blocks -/

/-- Rows `1024 z … 1024 z + 1023` of a result. -/
def rowBlk (z : Fin 4) : Finset S4096x512.Idx := Finset.univ.filter fun i => (i 0).val / 1024 = z.val

/-- Columns `512 z … 512 z + 511` of an argument. -/
def colBlk (z : Fin 4) : Finset S1024x2048.Idx := Finset.univ.filter fun i => (i 1).val / 512 = z.val

theorem mem_rowBlk {z : Fin 4} {i : S4096x512.Idx} : i ∈ rowBlk z ↔ (i 0).val / 1024 = z.val := by
  unfold rowBlk; rw [Finset.mem_filter]; exact ⟨fun h => h.2, fun h => ⟨Finset.mem_univ _, h⟩⟩

theorem mem_colBlk {z : Fin 4} {i : S1024x2048.Idx} : i ∈ colBlk z ↔ (i 1).val / 512 = z.val := by
  unfold colBlk; rw [Finset.mem_filter]; exact ⟨fun h => h.2, fun h => ⟨Finset.mem_univ _, h⟩⟩

theorem rowBlk_disjoint (z z' : Fin 4) (h : z ≠ z') : Disjoint (rowBlk z) (rowBlk z') :=
  Finset.disjoint_left.mpr fun _ hi hi' => h (Fin.ext ((mem_rowBlk.mp hi).symm.trans (mem_rowBlk.mp hi')))

theorem colBlk_disjoint (z z' : Fin 4) (h : z ≠ z') : Disjoint (colBlk z) (colBlk z') :=
  Finset.disjoint_left.mpr fun _ hi hi' => h (Fin.ext ((mem_colBlk.mp hi).symm.trans (mem_colBlk.mp hi')))

theorem row_lt (i : S4096x512.Idx) : (i 0).val < 4096 := (i 0).isLt
theorem col_lt (i : S4096x512.Idx) : (i 1).val < 512 := (i 1).isLt
theorem arow_lt (i : S1024x2048.Idx) : (i 0).val < 1024 := (i 0).isLt
theorem acol_lt (i : S1024x2048.Idx) : (i 1).val < 2048 := (i 1).isLt

theorem rowBlk_cover : Finset.univ.biUnion rowBlk = Finset.univ :=
  Finset.eq_univ_of_forall fun i => Finset.mem_biUnion.mpr
    ⟨⟨(i 0).val / 1024, by have := row_lt i; omega⟩, Finset.mem_univ _, mem_rowBlk.mpr rfl⟩

theorem colBlk_cover : Finset.univ.biUnion colBlk = Finset.univ :=
  Finset.eq_univ_of_forall fun i => Finset.mem_biUnion.mpr
    ⟨⟨(i 1).val / 512, by have := acol_lt i; omega⟩, Finset.mem_univ _, mem_colBlk.mpr rfl⟩

/-! ## The kernel's slices are blocks -/

abbrev argM : Memref sig .tc .vmem S1024x2048 .bf16 := Memref.whole cc0_stg0_0
abbrev outM : Memref sig .tc .vmem S4096x512 .bf16 := Memref.whole cc0_stg1_0
abbrev scrM : Memref sig .tc .vmem S1024x2048 .bf16 := Memref.whole cc0_scratch0

/-- Where device `d`'s copies land: its rows, in any result. -/
abbrev dstV (d : Dev nD) : Memref sig .tc .vmem S1024x512 .bf16 :=
  outM.slice (Rect.unit (s := S4096x512) (k0_off1 d) S1024x512.size (k0_off1_inb d)) (fun _ => rfl)

/-- What device `c`'s transfer `j` copies: its target's columns of the scratch copy. -/
abbrev srcV (c : Dev nD) (j : Fin 3) : Memref sig .tc .vmem S1024x512 .bf16 :=
  scrM.slice (Rect.unit (s := S1024x2048) (k0_off2 c (BitVec.ofNat 32 (1 + j.val))) S1024x512.size (k0_off2_inb c j)) (fun _ => rfl)

/-- The rectangle of device `c`'s own columns, and that of its own rows. -/
abbrev ownCols (c : Dev nD) : Rect S1024x2048 := Rect.unit (s := S1024x2048) (k0_off3 c) S1024x512.size (k0_off3_inb c)
abbrev ownRows (c : Dev nD) : Rect S4096x512 := Rect.unit (s := S4096x512) (k0_off4 c) S1024x512.size (k0_off4_inb c)

theorem rect_rows {off : Fin 2 → Nat} {inb} (z : Fin 4) (h0 : off 0 = 1024 * z.val) (h1 : off 1 = 0) :
    (Rect.unit (s := S4096x512) off S1024x512.size inb).set = rowBlk z := by
  ext i
  rw [mem_rowBlk]
  refine Rect.mem_set_unit.trans (Fin.forall_fin_two.trans ?_)
  rw [h0, h1, show S1024x512.size 0 = 1024 from rfl, show S1024x512.size 1 = 512 from rfl]
  have hc := col_lt i
  omega

theorem rect_cols {off : Fin 2 → Nat} {inb} (z : Fin 4) (h0 : off 0 = 0) (h1 : off 1 = 512 * z.val) :
    (Rect.unit (s := S1024x2048) off S1024x512.size inb).set = colBlk z := by
  ext i
  rw [mem_colBlk]
  refine Rect.mem_set_unit.trans (Fin.forall_fin_two.trans ?_)
  rw [h0, h1, show S1024x512.size 0 = 1024 from rfl, show S1024x512.size 1 = 512 from rfl]
  have hc := arow_lt i
  omega

theorem dstV_set (d : Dev nD) : (dstV d).view.set = rowBlk (zOf d) :=
  (View.set_slice_whole _ _).trans (rect_rows (zOf d) (off1_rows d) (off1_cols d))

theorem srcV_set (c : Dev nD) (j : Fin 3) : (srcV c j).view.set = colBlk (zOf (tgt j c)) :=
  (View.set_slice_whole _ _).trans (rect_cols (zOf (tgt j c)) (off2_rows c j) (off2_cols c j))

theorem ownCols_set (c : Dev nD) : (ownCols c).set = colBlk (zOf c) := rect_cols (zOf c) (off3_rows c) (off3_cols c)

theorem ownRows_set (c : Dev nD) : (outM.access (ownRows c)).set = rowBlk (zOf c) :=
  (View.set_slice_whole _ _).trans (rect_rows (zOf c) (off4_rows c) (off4_cols c))

/-! ## What a result holds -/

variable {α : Type}

/-- Row `r`, column `l` of an argument. -/
def at2 (r l : ℕ) (hr : r < 1024) (hl : l < 2048) : S1024x2048.Idx := fun a => match a with
  | ⟨0, _⟩ => ⟨r, hr⟩
  | ⟨1, _⟩ => ⟨l, hl⟩

theorem at2_zero (r l : ℕ) (hr hl) : (at2 r l hr hl 0).val = r := rfl
theorem at2_one (r l : ℕ) (hr hl) : (at2 r l hr hl 1).val = l := rfl

theorem idx_ext {i k : S1024x2048.Idx} (h0 : (i 0).val = (k 0).val) (h1 : (i 1).val = (k 1).val) : i = k :=
  funext (Fin.forall_fin_two.mpr ⟨Fin.ext h0, Fin.ext h1⟩)

theorem from_row (i : S4096x512.Idx) : (i 0).val / 1024 < 4 := by have := row_lt i; omega
theorem from_col (c : Dev nD) (i : S4096x512.Idx) : 512 * (zOf c).val + (i 1).val < 2048 := by
  have := col_lt i; have := (zOf c).isLt; omega

/-- The result of the exchange on device `c`, from every device's argument `X`: row block `z` is device `c`'s column
    block of the argument of the device at position `z` of its line. -/
def gathered (X : Dev nD → S1024x2048.Idx → α) (c : Dev nD) (i : S4096x512.Idx) : α :=
  X (onLine c ⟨(i 0).val / 1024, from_row i⟩)
    (at2 ((i 0).val % 1024) (512 * (zOf c).val + (i 1).val) (Nat.mod_lt _ (by decide)) (from_col c i))

/-- Read at a row of a named block: the argument of that block's device, at the block's own row. -/
theorem gathered_apply (X : Dev nD → S1024x2048.Idx → α) (c s : Dev nD) (hs : onLine c (zOf s) = s) (i : S4096x512.Idx)
    (x : S1024x2048.Idx) (h0 : (i 0).val = 1024 * (zOf s).val + (x 0).val) (h1 : (x 1).val = 512 * (zOf c).val + (i 1).val) :
    gathered X c i = X s x := by
  have hx := arow_lt x
  unfold gathered
  rw [show (⟨(i 0).val / 1024, from_row i⟩ : Fin 4) = zOf s from Fin.ext (by show (i 0).val / 1024 = (zOf s).val; omega), hs]
  exact congrArg (X s) (idx_ext (by rw [at2_zero]; omega) (by rw [at2_one]; omega))

theorem onLine_of_tgt (j : Fin 3) (s : Dev nD) : onLine (tgt j s) (zOf s) = s := by
  unfold tgt; rw [onLine_hop, onLine_zOf]

section Contents

variable {F : FTy → Type}

/-- The copy of transfer `j` of device `s`, landed in its target's result: on the rows it covers, what the exchange
    gives there. -/
theorem landed_eq (X : Dev nD → S1024x2048.Idx → Elt F .bf16) (s : Dev nD) (j : Fin 3)
    (fd : outM.view.ty.Contents (Elt F)) (i : S4096x512.Idx) (hi : i ∈ rowBlk (zOf s)) :
    (dstV s).view.write (Elt F) fd ((srcV s j).view.read (Elt F) (X s)) Finset.univ i = gathered X (tgt j s) i := by
  rw [← dstV_set, View.set, Finset.mem_map] at hi
  obtain ⟨x, -, rfl⟩ := hi
  rw [View.write_emb_of_mem _ _ (Finset.mem_univ x), View.read_apply]
  refine Eq.symm (gathered_apply X (tgt j s) s (onLine_of_tgt j s) _ ((srcV s j).view.emb x) ?_ ?_)
  · have h1 : ((dstV s).view.emb x 0).val = k0_off1 s 0 + 1 * (x 0).val := rfl
    have h2 : ((srcV s j).view.emb x 0).val = k0_off2 s (BitVec.ofNat 32 (1 + j.val)) 0 + 1 * (x 0).val := rfl
    rw [h1, h2, off1_rows, off2_rows]; omega
  · have h1 : ((dstV s).view.emb x 1).val = k0_off1 s 1 + 1 * (x 1).val := rfl
    have h2 : ((srcV s j).view.emb x 1).val = k0_off2 s (BitVec.ofNat 32 (1 + j.val)) 1 + 1 * (x 1).val := rfl
    rw [h1, h2, off1_cols, off2_cols]; omega

/-- The block a device keeps for itself: its own columns stored over its own rows. -/
theorem kept_eq (X : Dev nD → S1024x2048.Idx → Elt F .bf16) (c : Dev nD)
    (fd : outM.view.ty.Contents (Elt F)) (i : S4096x512.Idx) (hi : i ∈ rowBlk (zOf c)) :
    (outM.access (ownRows c)).write (Elt F) fd (scrM.view.readAt (Elt F) (ownCols c).toLoadRect (X c)) Finset.univ i
      = gathered X c i := by
  rw [← ownRows_set, View.set, Finset.mem_map] at hi
  obtain ⟨x, -, rfl⟩ := hi
  rw [View.write_emb_of_mem _ _ (Finset.mem_univ x)]
  refine Eq.symm (gathered_apply X c c (onLine_zOf c) _ ((ownCols c).emb x) ?_ ?_)
  · have h1 : ((outM.access (ownRows c)).emb x 0).val = k0_off4 c 0 + 1 * (x 0).val := rfl
    have h2 : ((ownCols c).emb x 0).val = k0_off3 c 0 + 1 * (x 0).val := rfl
    rw [h1, h2, off4_rows, off3_rows]; omega
  · have h1 : ((outM.access (ownRows c)).emb x 1).val = k0_off4 c 1 + 1 * (x 1).val := rfl
    have h2 : ((ownCols c).emb x 1).val = k0_off3 c 1 + 1 * (x 1).val := rfl
    rw [h1, h2, off4_cols, off3_cols]; omega

end Contents

/-! ## A buffer held whole is held block by block -/

section Pieces

variable {F : FTy → Type} {U : Type} [URA U]

local notation "𝕄" => MT nD τ sig Unit (Elt F) ℕ U ℕ

/-- Device `a`'s result buffer, the rows of position `z` only. -/
def outPart (a : Dev nD) (z : Fin 4) (f : S4096x512.Idx → Elt F .bf16) : sProp 𝕄 :=
  ((a : Thread nD τ).loc cc0_stg1_0) ↦[rowBlk z]{fullShare} f

/-- Device `a`'s scratch copy of its argument, the columns of position `z` only. -/
def scrPart (a : Dev nD) (z : Fin 4) (f : S1024x2048.Idx → Elt F .bf16) : sProp 𝕄 :=
  ((a : Thread nD τ).loc cc0_scratch0) ↦[colBlk z]{fullShare} f

instance outPart_storable (a : Dev nD) (z : Fin 4) (f : S4096x512.Idx → Elt F .bf16) :
    BI.Storable (upEmb : UEmb _ 𝕄) (outPart a z f) := by unfold outPart; infer_instance
instance scrPart_storable (a : Dev nD) (z : Fin 4) (f : S1024x2048.Idx → Elt F .bf16) :
    BI.Storable (upEmb : UEmb _ 𝕄) (scrPart a z f) := by unfold scrPart; infer_instance

/-- Counting the positions of a line from position `z`. -/
def around (z : Fin 4) : Fin 4 ≃ Fin 4 := ⟨fun k => z + k, fun k => k - z, by revert z; decide, by revert z; decide⟩

/-- Over the four positions: device `c`'s own, then its three targets'. -/
theorem bigSep_line (c : Dev nD) (Φ : Fin 4 → sProp 𝕄) :
    bigSep Finset.univ Φ = iprop(Φ (zOf c) ∗ Φ (zOf (tgt 0 c)) ∗ Φ (zOf (tgt 1 c)) ∗ Φ (zOf (tgt 2 c))) := by
  rw [bigSep_univ_equiv (around (zOf c)) Φ, bigSep_univ_eq_bigSepL [0, 1, 2, 3] (by decide) (by decide)]
  unfold tgt
  rw [zOf_hop, zOf_hop, zOf_hop]
  have h : around (zOf c) 0 = zOf c := (by decide : ∀ a : Fin 4, around a 0 = a) _
  show iprop(Φ (around (zOf c) 0) ∗ _) = _
  rw [h]; rfl

theorem out_cut (c : Dev nD) (f : S4096x512.Idx → Elt F .bf16) :
    (((c : Thread nD τ).loc cc0_stg1_0) ↦{fullShare} f : sProp 𝕄)
      = iprop(outPart c (zOf c) f ∗ outPart c (zOf (tgt 0 c)) f ∗ outPart c (zOf (tgt 1 c)) f ∗ outPart c (zOf (tgt 2 c)) f) := by
  rw [← bigSep_line c fun z => outPart c z f]
  exact Ring.pointsTo_blocks (ℓ := (c : Thread nD τ).loc cc0_stg1_0) rowBlk rowBlk_disjoint rowBlk_cover f

theorem scr_cut (c : Dev nD) (f : S1024x2048.Idx → Elt F .bf16) :
    (((c : Thread nD τ).loc cc0_scratch0) ↦{fullShare} f : sProp 𝕄)
      = iprop(scrPart c (zOf c) f ∗ scrPart c (zOf (tgt 0 c)) f ∗ scrPart c (zOf (tgt 1 c)) f ∗ scrPart c (zOf (tgt 2 c)) f) := by
  rw [← bigSep_line c fun z => scrPart c z f]
  exact Ring.pointsTo_blocks (ℓ := (c : Thread nD τ).loc cc0_scratch0) colBlk colBlk_disjoint colBlk_cover f

/-- Only the contents on the block matter. -/
theorem outPart_congr (a : Dev nD) (z : Fin 4) {f g : S4096x512.Idx → Elt F .bf16} (h : ∀ i ∈ rowBlk z, f i = g i) :
    (outPart a z f : sProp 𝕄) = outPart a z g :=
  pointsTo_congr (ℓ := (a : Thread nD τ).loc cc0_stg1_0) h

end Pieces

end Cert.AllToAll

end
-- ==== Proof.Protocol.lean ====
/-
# Who waits for whom, how much, and what each landing hands over

Each device owns seven semaphores.

* Its BARRIER. The three other devices of its line raise it by one each, device `d` saying with its unit number `j`
  (sent to `tgt j d`) that row block `zOf (tgt j d)` of `d`'s result may now be written: the unit hands that block over, at
  whatever it holds. The owner waits for three units, and so holds the three places its transfers write.
* SEND `j`, raised by transfer `j` once its source is read: the source columns come back as they were.
* RECEIVE `j`, raised by the transfer `j` arriving here, from `tgt (2 - j)` of the owner: that sender's row block of
  the owner's result comes back, now holding what the exchange gives there.

Every semaphore is waited for once. A device waits for its barrier while still owing its three arrivals, and for
everything else owing nothing, so receives rank above barriers and no circle of waits can form.
-/
module

public import proofs.«01_k».proof.Proof.Blocks
public import proofs.«01_k».proof.Proof.Gen.KernelIdeal.Launch
public import Idealize.ShloMosaic.Lib.Pipeline.Launch

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The resources -/

/-- The rounds of the exchange: three contribution names, one per transfer number. -/
abbrev UX : Type := URounds (GSem nD τ sig) (Fin 3)
/-- Beside those of the staging. -/
abbrev UA : Type := UR sig nD τ × UX

variable {F : FTy → Type}

local notation "𝕄" => MT nD τ sig Unit (Elt F) ℕ UA ℕ

abbrev EX : Emb UX (MT nD τ sig Unit (Elt F) ℕ UA ℕ) := embR

/-! ## The semaphores -/

/-- Which of a device's seven semaphores: the barrier, or the send (`false`) or receive (`true`) of a transfer. -/
abbrev Role : Type := Option (Bool × Fin 3)
abbrev bar : Role := none
abbrev snd (j : Fin 3) : Role := some (false, j)
abbrev rcv (j : Fin 3) : Role := some (true, j)

abbrev barS : Sem sig := (SemArray.scalar (sig.barrier 0 rfl) : Sems sig S_).sem

/-- The entries of a three-semaphore array, as the kernel takes them out of it. -/
abbrev entry (A : DmaSems sig S3) : Fin 3 → DmaSem sig
  | 0 => ((A.slice (Rect.unit (s := S3) ![0] S1.size inb_S3_S1_0)).squeeze S_ squeezes_S1_S_).sem
  | 1 => ((A.slice (Rect.unit (s := S3) ![1] S1.size inb_S3_S1_1)).squeeze S_ squeezes_S1_S_).sem
  | 2 => ((A.slice (Rect.unit (s := S3) ![2] S1.size inb_S3_S1_2)).squeeze S_ squeezes_S1_S_).sem

abbrev sendS (j : Fin 3) : DmaSem sig := entry cc0_scratch1 j
abbrev recvS (j : Fin 3) : DmaSem sig := entry cc0_scratch2 j

/-- The kernel's own semaphores: the barrier is not among them, it belongs to every kernel of the chip. -/
abbrev ownSem : Bool × Fin 3 → SemLoc sig
  | (false, j) => .dma (sendS j)
  | (true, j) => .dma (recvS j)

abbrev semOf : Role → SemLoc sig
  | none => .reg barS
  | some k => ownSem k

theorem semOf_injective : Function.Injective semOf := by decide

abbrev roles : List Role := [bar, snd 0, snd 1, snd 2, rcv 0, rcv 1, rcv 2]

/-- What a semaphore is for, if the exchange uses it at all. -/
def roleOf (sm : SemLoc sig) : Option Role := roles.find? fun k => decide (semOf k = sm)

theorem roleOf_semOf (k : Role) : roleOf (semOf k) = some k := by revert k; decide

/-- Device `c`'s semaphore of a role. -/
abbrev cell (c : Dev nD) (k : Role) : GSem nD τ sig := ((c : Thread nD τ), semOf k)

theorem cell_inj {c d : Dev nD} {k k' : Role} (h : cell c k = cell d k') : c = d ∧ k = k' :=
  ⟨congrArg (fun g : GSem nD τ sig => g.1.1) h, semOf_injective (congrArg Prod.snd h)⟩

/-- What one copied block credits. -/
abbrev N : ℕ := (dstV 0).view.dmaCredit

theorem N_pos : 0 < N := View.dmaCredit_pos _ (by decide)

/-! ## The schedule -/

variable (X : Dev nD → S1024x2048.Idx → Elt F .bf16)

/-- What transfer `j` of device `c` needs of its target: device `c`'s rows of the target's result. -/
def roomPay (c : Dev nD) (j : Fin 3) : sProp 𝕄 := iprop(∃ f, outPart (F := F) (tgt j c) (zOf c) f)

/-- What device `c` gets back of transfer `j`: the columns it copied. -/
def sentPay (c : Dev nD) (j : Fin 3) : sProp 𝕄 := scrPart c (zOf (tgt j c)) (X c)

/-- What arrives at device `c` by transfer `j`: the sender's rows, as the exchange has them. -/
def heldPay (c : Dev nD) (j : Fin 3) : sProp 𝕄 := outPart c (zOf (tgt j.rev c)) (gathered X c)

instance roomPay_storable (c : Dev nD) (j : Fin 3) : BI.Storable (upEmb : UEmb _ 𝕄) (roomPay (F := F) c j) := by
  unfold roomPay; infer_instance
instance sentPay_storable (c : Dev nD) (j : Fin 3) : BI.Storable (upEmb : UEmb _ 𝕄) (sentPay X c j) := by
  unfold sentPay; infer_instance
instance heldPay_storable (c : Dev nD) (j : Fin 3) : BI.Storable (upEmb : UEmb _ 𝕄) (heldPay X c j) := by
  unfold heldPay; infer_instance

/-- Who contributes to a semaphore of this role. -/
def dutiesOf : Option Role → Finset (Fin 3)
  | some none => Finset.univ
  | some (some _) => {0}
  | none => ∅

/-- How much each contribution is. -/
def amountOf : Option Role → ℕ
  | some none => 1
  | _ => N

/-- What contribution `d` to device `c`'s semaphore of this role hands over. -/
def payOf (c : Dev nD) (d : Fin 3) : Option Role → sProp 𝕄
  | some none => roomPay c d.rev
  | some (some (false, j)) => sentPay X c j
  | some (some (true, j)) => heldPay X c j
  | none => iprop(emp)

theorem amountOf_pos (k : Option Role) : 0 < amountOf k := by
  rcases k with _ | _ | _
  · exact N_pos
  · exact Nat.one_pos
  · exact N_pos

instance payOf_storable (c : Dev nD) (d : Fin 3) (k : Option Role) : BI.Storable (upEmb : UEmb _ 𝕄) (payOf X c d k) := by
  rcases k with _ | _ | ⟨b, j⟩
  · unfold payOf; infer_instance
  · unfold payOf; infer_instance
  · cases b <;> (unfold payOf; infer_instance)

/-- One round per semaphore. -/
def sched : Rounds.Schedule (GSem nD τ sig) (Fin 3) 𝕄 where
  duties g r := if r = 0 ∧ g.1.2 = .tc then dutiesOf (roleOf g.2) else ∅
  amount g _ _ := amountOf (roleOf g.2)
  payload g _ d := payOf X g.1.1 d (roleOf g.2)
  amount_pos g _ _ _ := amountOf_pos (roleOf g.2)

instance sched_storable (g : GSem nD τ sig) (r : ℕ) (d : Fin 3) :
    BI.Storable (upEmb : UEmb _ 𝕄) ((sched X).payload g r d) :=
  payOf_storable X g.1.1 d (roleOf g.2)

section Tables

variable (c : Dev nD)

theorem duties_cell (k : Role) : (sched X).duties (cell c k) 0 = dutiesOf (some k) := by
  dsimp only [sched]; rw [if_pos ⟨rfl, rfl⟩, roleOf_semOf]

theorem duties_after (g : GSem nD τ sig) (r : ℕ) (hr : 1 ≤ r) : (sched X).duties g r = ∅ :=
  if_neg fun h => by have := h.1; omega

theorem amount_cell (k : Role) (d : Fin 3) : (sched X).amount (cell c k) 0 d = amountOf (some k) :=
  congrArg amountOf (roleOf_semOf k)

theorem payload_cell (k : Role) (d : Fin 3) : (sched X).payload (cell c k) 0 d = payOf X c d (some k) :=
  congrArg (payOf X c d) (roleOf_semOf k)

theorem mem_duties_bar (j : Fin 3) : j ∈ (sched X).duties (cell c bar) 0 := by
  rw [duties_cell]; exact Finset.mem_univ _

theorem mem_duties_own (k : Bool × Fin 3) : (0 : Fin 3) ∈ (sched X).duties (cell c (some k)) 0 := by
  rw [duties_cell]; exact Finset.mem_singleton_self _

theorem expect_bar : (sched X).expect (cell c bar) 0 = 3 := by
  unfold Schedule.expect Schedule.amountOf
  rw [duties_cell, Finset.sum_congr rfl fun d _ => amount_cell X c bar d]
  exact (Finset.sum_const _).trans rfl

theorem expect_own (k : Bool × Fin 3) : (sched X).expect (cell c (some k)) 0 = N := by
  unfold Schedule.expect Schedule.amountOf
  rw [duties_cell, Finset.sum_congr rfl fun d _ => amount_cell X c (some k) d]
  exact Finset.sum_singleton _ _

theorem bigSep_three (Φ : Fin 3 → sProp 𝕄) : bigSep Finset.univ Φ = iprop(Φ 0 ∗ Φ 1 ∗ Φ 2) :=
  bigSep_univ_eq_bigSepL [0, 1, 2] (by decide) (by decide) Φ

/-- The whole round of a barrier: room for transfers 2, 1 and 0. -/
theorem rest_bar : bigSep ((sched X).duties (cell c bar) 0 \ ∅) (fun d => (sched X).payload (cell c bar) 0 d)
    = iprop(roomPay c 2 ∗ roomPay c 1 ∗ roomPay c 0) := by
  rw [Finset.sdiff_empty, duties_cell, bigSep_congr fun d _ => payload_cell X c bar d]
  exact bigSep_three fun d => roomPay c d.rev

/-- The whole round of a send or a receive. -/
theorem rest_own (k : Bool × Fin 3) :
    bigSep ((sched X).duties (cell c (some k)) 0 \ ∅) (fun d => (sched X).payload (cell c (some k)) 0 d)
      = payOf X c 0 (some (some k)) := by
  rw [Finset.sdiff_empty, duties_cell, bigSep_congr fun d _ => payload_cell X c (some k) d]
  exact bigSep_singleton

end Tables

/-! ## What a device owes at the start, and the ranks -/

/-- Device `c` owes the arrival of its transfer `j` … -/
abbrev owesArrival (c : Dev nD) (j : Fin 3) : CellTallies nD τ sig Unit := tallyAt (cell (tgt j c) (rcv j)) () N
/-- … and its unit `j` to that device's barrier. -/
abbrev owesUnit (c : Dev nD) (j : Fin 3) : CellTallies nD τ sig Unit := tallyAt (cell (tgt j c) bar) () 1

/-- The transfers still to start, from the first; the last; from the second. -/
def left1 (c : Dev nD) : CellTallies nD τ sig Unit := 0 + owesArrival c 2
def left2 (c : Dev nD) : CellTallies nD τ sig Unit := left1 c + owesArrival c 1
def left3 (c : Dev nD) : CellTallies nD τ sig Unit := left2 c + owesArrival c 0
/-- With the units still to send besides. -/
def left4 (c : Dev nD) : CellTallies nD τ sig Unit := left3 c + owesUnit c 2
def left5 (c : Dev nD) : CellTallies nD τ sig Unit := left4 c + owesUnit c 1
def left6 (c : Dev nD) : CellTallies nD τ sig Unit := left5 c + owesUnit c 0

theorem left6_apply (c : Dev nD) (g : GSem nD τ sig) :
    left6 c g () = (∑ j, owesArrival c j g ()) + ∑ j, owesUnit c j g () := by
  unfold left6 left5 left4 left3 left2 left1
  simp only [Pi.add_apply, Finsupp.add_apply, Pi.zero_apply, Finsupp.zero_apply, Fin.sum_univ_three]
  omega

theorem left3_apply (c : Dev nD) (g : GSem nD τ sig) : left3 c g () = ∑ j, owesArrival c j g () := by
  unfold left3 left2 left1
  simp only [Pi.add_apply, Finsupp.add_apply, Pi.zero_apply, Finsupp.zero_apply, Fin.sum_univ_three]
  omega

/-- Only a chip's main core waits for anything. -/
def waitable (g : GSem nD τ sig) : Finset Unit := if g.1.2 = .tc then {()} else ∅

/-- The rank of a semaphore: receives 2, barriers 1, all else 0. -/
def rankOf : Option Role → ℕ
  | some none => 1
  | some (some (true, _)) => 2
  | _ => 0
def rank (g : GSem nD τ sig) (_ : Unit) : ℕ := rankOf (roleOf g.2)

theorem waitable_tc (c : Dev nD) (sm : SemLoc sig) : waitable ((c : Thread nD τ), sm) = {()} := if_pos rfl
theorem waitable_else (g : GSem nD τ sig) (h : g.1.2 ≠ .tc) : waitable g = ∅ := if_neg h
theorem rank_cell (c : Dev nD) (k : Role) : rank (cell c k) () = rankOf (some k) := congrArg rankOf (roleOf_semOf k)

theorem arrival_pos {c : Dev nD} {g : GSem nD τ sig} (h : 0 < ∑ j, owesArrival c j g ()) :
    ∃ j, g = cell (tgt j c) (rcv j) := by
  obtain ⟨j, -, hj⟩ := Finset.exists_ne_zero_of_sum_ne_zero h.ne'
  rw [tallyAt_apply] at hj
  by_contra hn
  exact hj (if_neg fun h' => hn ⟨j, h'.1⟩)

theorem unit_pos {c : Dev nD} {g : GSem nD τ sig} (h : 0 < ∑ j, owesUnit c j g ()) :
    ∃ j, g = cell (tgt j c) bar := by
  obtain ⟨j, -, hj⟩ := Finset.exists_ne_zero_of_sum_ne_zero h.ne'
  rw [tallyAt_apply] at hj
  by_contra hn
  exact hj (if_neg fun h' => hn ⟨j, h'.1⟩)

/-- Whatever a device owes at the start, it may wait for a semaphore of rank 0 (the staging's are). -/
theorem may_wait_low (c : Dev nD) (sm : SemLoc sig) (hs : rankOf (roleOf sm) = 0) :
    (levAts waitable rank : sProp 𝕄) ⊢ MayWait (c : Thread nD τ) sm () (left6 c) := by
  have key (g : GSem nD τ sig) (h : 0 < left6 c g ()) : ∃ d k, g = cell d k ∧ 0 < rankOf (some k) := by
    rw [left6_apply] at h
    rcases Nat.add_pos_iff_pos_or_pos.mp h with h | h
    · obtain ⟨j, hj⟩ := arrival_pos h; exact ⟨_, _, hj, Nat.two_pos⟩
    · obtain ⟨j, hj⟩ := unit_pos h; exact ⟨_, _, hj, Nat.one_pos⟩
  refine MayOwe.of_cut (L := waitable) (lev := rank) 0
    (fun p hp => by rw [Finset.mem_singleton.mp hp, waitable_tc]; exact Finset.mem_singleton_self _)
    (fun g u hg => ?_) (fun p hp => by rw [Finset.mem_singleton.mp hp]; exact Nat.le_of_eq hs) (fun g u hg => ?_)
  · obtain ⟨d, k, rfl, -⟩ := key g hg
    rw [waitable_tc]; exact Finset.mem_singleton_self _
  · obtain ⟨d, k, rfl, hk⟩ := key g hg
    exact (rank_cell d k).symm ▸ hk

/-- At its barrier a device owes its arrivals only. -/
theorem may_wait_bar (c : Dev nD) : (levAts waitable rank : sProp 𝕄) ⊢ MayWait (c : Thread nD τ) (semOf bar) () (left3 c) := by
  refine MayOwe.of_cut (L := waitable) (lev := rank) 1
    (fun p hp => by rw [Finset.mem_singleton.mp hp, waitable_tc]; exact Finset.mem_singleton_self _)
    (fun g u hg => ?_) (fun p hp => by rw [Finset.mem_singleton.mp hp]; exact Nat.le_of_eq (rank_cell c bar)) (fun g u hg => ?_)
  · obtain ⟨j, rfl⟩ := arrival_pos ((left3_apply c g) ▸ hg)
    rw [waitable_tc]; exact Finset.mem_singleton_self _
  · obtain ⟨j, rfl⟩ := arrival_pos ((left3_apply c g) ▸ hg)
    exact (rank_cell _ (rcv j)).symm ▸ (by decide : 1 < 2)

end Cert.AllToAll

end
-- ==== Proof.Steps.lean ====
/-
# The kernel's communication steps, one rule each

A signal, the barrier's wait, a transfer, and the wait for a send or a receive, each from the resources the schedule
says it needs to those it says it gives.
-/
module

public import proofs.«01_k».proof.Proof.Protocol

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (X : Dev nD → S1024x2048.Idx → Elt F .bf16) (K : Dev nD × Role → ℕ)

/-- What every device knows: the invariant of each of the exchange's semaphores, at the names `K`, and that each has
    reached its round. -/
def known : sProp 𝕄 :=
  iprop((bigSep Finset.univ fun ck : Dev nD × Role => cellInv EX (sched X) (K ck) (cell ck.1 ck.2))
    ∗ bigSep Finset.univ fun ck : Dev nD × Role => reached EX (cell ck.1 ck.2) 0)

instance known_persistent : BI.Persistent (known X K) := by unfold known; infer_instance

omit [FloatOps F] in
theorem known_inv (c : Dev nD) (k : Role) : known X K ⊢ cellInv EX (sched X) (K (c, k)) (cell c k) := by
  unfold known
  exact sep_elim_left.trans
    (bigSep_elim (Φ := fun ck : Dev nD × Role => (cellInv EX (sched X) (K ck) (cell ck.1 ck.2) : sProp 𝕄)) (Finset.mem_univ (c, k)))

omit [FloatOps F] in
theorem known_reached (c : Dev nD) (k : Role) : known X K ⊢ reached EX (cell c k) 0 := by
  unfold known
  exact sep_elim_right.trans
    (bigSep_elim (Φ := fun ck : Dev nD × Role => (reached EX (cell ck.1 ck.2) 0 : sProp 𝕄)) (Finset.mem_univ (c, k)))

abbrev noVariants : Variants := Variants.none

/-- Device `c`'s program `p` running to `Q`. -/
abbrev runs {α : Type} (c : Dev nD) (p : Prog (TpuEff nD τ sig (Elt F) Λ₀ .tc) α) (Q : α → sProp 𝕄) : sProp 𝕄 :=
  wp frame (wpE (defs₀ (F := F)) noVariants (c : Thread nD τ) none) Set.univ p Q

/-- Unit `j` to the barrier of `tgt j c`, giving it device `c`'s rows for its transfer. -/
theorem step_signal (c n : Dev nD) (j : Fin 3) (hn : n = tgt j c) (k' : ℕ) (hk : k' = 1)
    {α : Type} {Q : α → sProp 𝕄} {k : PUnit → Prog (TpuEff nD τ sig (Elt F) Λ₀ .tc) α} (O O' : CellTallies nD τ sig Unit) (hO : O = O' + owesUnit c j)
    (W : Waits sig Unit) (f : S4096x512.Idx → Elt F .bf16) :
    iprop(known X K ∗ owes (c : Thread nD τ) O W ∗ dutyTok EX (cell (tgt j c) bar) 0 j ∗ outPart c (zOf (tgt j c)) f)
      ⊢ iprop((owes (c : Thread nD τ) O' W -∗ runs c (k ⟨⟩) Q)
          -∗ runs c (.op (.semSignal (n : Thread nD τ) barS k') k) Q) := by
  subst hn hk
  iintro ⟨#HK, HO, Ht, Hf⟩
  iapply (Rounds.wp_signal noVariants EX (sched X) (c : Thread nD τ) none (dst := (tgt j c : Thread nD τ)) (κ := K (tgt j c, bar))
    (d := j) (mem_duties_bar X (tgt j c) j) (amount_cell X (tgt j c) bar j) () O' hO)
  isplitr; · iapply (known_inv X K (tgt j c) bar); iexact HK
  isplitl [HO]; · iexact HO
  isplitl [Ht]; · iexact Ht
  isplitl [Hf]
  · iapply (Entails.of_eq (payload_cell X (tgt j c) bar j).symm)
    unfold payOf roomPay
    rw [tgt_rev_tgt]
    iexists f; iexact Hf
  · iapply (known_reached X K (tgt j c) bar); iexact HK

/-- The barrier: three units, and room for the three transfers. -/
theorem step_barrier (c : Dev nD) (k' : ℕ) (hk : k' = 3)
    {α : Type} {Q : α → sProp 𝕄} {k : PUnit → Prog (TpuEff nD τ sig (Elt F) Λ₀ .tc) α} (W : Waits sig Unit) :
    iprop(known X K ∗ cred (tallyAt (cell c bar) () 3) ∗ owes (c : Thread nD τ) (left3 c) W ∗ levAts waitable rank
        ∗ atPos EX (cell c bar) 0 ∅ 0)
      ⊢ iprop(((owes (c : Thread nD τ) (left3 c) (insert (semOf bar, ()) W) ∗ atPos EX (cell c bar) 1 ∅ 0
            ∗ roomPay c 2 ∗ roomPay c 1 ∗ roomPay c 0) -∗ runs c (k ⟨⟩) Q)
          -∗ runs c (.op (.semWait barS k') k) Q) := by
  subst hk
  iintro ⟨#HK, Hc, HO, #Hl, Hat⟩ Hk
  iapply (Rounds.wp_wait_rest_token noVariants EX (sched X) (c : Thread nD τ) none (κ := K (c, bar)) (sm := semOf bar)
      (wpE_semWait_eq noVariants (c : Thread nD τ) none Set.univ) (Set.mem_univ _) () (O := left3 c) (W := W) (R := 0) (m := 0) (T := ∅)
      (by rw [expect_bar])) $$ [Hc HO Hat]
  · isplitr; · iapply (known_inv X K c bar); iexact HK
    isplitl [Hc]; · iexact Hc
    isplitl [HO]; · iexact HO
    isplitr; · iapply (may_wait_bar c); iexact Hl
    iexact Hat
  iintro ⟨HO, Hat, -, Hp⟩
  ihave Hp' := (Entails.of_eq (rest_bar X c)) $$ Hp
  iapply Hk
  isplitl [HO]; · iexact HO
  isplitl [Hat]; · iexact Hat
  iexact Hp'

omit [FloatOps F] in
/-- A block landed by transfer `j` of device `c` is what the target's receive `j` hands its owner. -/
theorem landed_pay (c : Dev nD) (j : Fin 3) (fd : outM.view.ty.Contents (Elt F)) :
    (((dstV c).view.loc (tgt j c : Thread nD τ)) ↦[(dstV c).view.set]{fullShare}
        ((dstV c).view.write (Elt F) fd ((srcV c j).view.read (Elt F) (X c)) Finset.univ) : sProp 𝕄)
      ⊢ (sched X).payload (cell (tgt j c) (rcv j)) 0 0 := by
  rw [payload_cell, dstV_set]
  change _ ⊢ outPart (tgt j c) (zOf (tgt j.rev (tgt j c))) (gathered X (tgt j c))
  rw [tgt_rev_tgt]
  exact Entails.of_eq (outPart_congr (tgt j c) (zOf c) fun i hi => landed_eq X c j fd i hi)

/-- Transfer `j`: the target's columns go off and the room is filled when it lands; its send is now to wait for. -/
theorem step_send (c n : Dev nD) (j : Fin 3) (hn : n = tgt j c)
    {hsc : (dstV c : Memref sig (Dev.tc n : Thread nD τ).2.kind .vmem S1024x512 .bf16).view.ref.isScScratch = false}
    {hsrc : (srcV c j).view.WordExact} {hdst : (dstV c).view.WordExact}
    {hsem : DmaTarget.Typed .vmem (.dma (recvS j)) (.remote (Dev.tc n : Thread nD τ) (dstV c) (.dma (sendS j)) hsc)}
    {α : Type} {Q : α → sProp 𝕄} {k : PUnit → Prog (TpuEff nD τ sig (Elt F) Λ₀ .tc) α} (O O' : CellTallies nD τ sig Unit) (hO : O = O' + owesArrival c j)
    (W : Waits sig Unit) :
    iprop(known X K ∗ scrPart c (zOf (tgt j c)) (X c) ∗ roomPay c j ∗ owes (c : Thread nD τ) O W
        ∗ dutyTok EX (cell c (snd j)) 0 0 ∗ dutyTok EX (cell (tgt j c) (rcv j)) 0 0)
      ⊢ iprop(((cred (tallyAt (cell c (snd j)) () N) ∗ owes (c : Thread nD τ) O' W) -∗ runs c (k ⟨⟩) Q)
          -∗ runs c (.op (.enqueueDma (srcV c j) (.remote (Dev.tc n : Thread nD τ) (dstV c) (.dma (sendS j)) hsc) (.dma (recvS j))
              hsrc hdst hsem) k) Q) := by
  subst hn
  unfold roomPay
  iintro ⟨#HK, Hx, ⟨%fd, Hr⟩, HO, Hs, Hv⟩
  iapply (Rounds.wp_send_pointsTo noVariants EX (sched X) (c : Thread nD τ) none (src := srcV c j) (dst := dstV c)
    (sS := .dma (sendS j)) (sem := .dma (recvS j)) (c' := (tgt j c : Thread nD τ)) (hsc := hsc)
    (κ₁ := K (c, snd j)) (κ₂ := K (tgt j c, rcv j)) (r₁ := 0) (r₂ := 0) (d₁ := 0) (d₂ := 0) (fs := X c) (fd := fd) (q := fullShare)
    (mem_duties_own X c (false, j)) (mem_duties_own X (tgt j c) (true, j)) () () N rfl
    (amount_cell X c (snd j) 0) (amount_cell X (tgt j c) (rcv j) 0) O' hO (W := W)
    (by
      refine Entails.of_eq ?_
      rw [srcV_set]
      exact (payload_cell X c (snd j) 0).symm)
    (landed_pay X c j fd))
  isplitr; · iapply (known_inv X K c (snd j)); iexact HK
  isplitr; · iapply (known_inv X K (tgt j c) (rcv j)); iexact HK
  isplitl [Hx]
  · rw [srcV_set]; unfold scrPart; iexact Hx
  isplitl [Hr]
  · rw [dstV_set]; unfold outPart; iexact Hr
  isplitl [HO]; · iexact HO
  isplitl [Hs]; · iexact Hs
  isplitr; · iapply (known_reached X K c (snd j)); iexact HK
  isplitl [Hv]; · iexact Hv
  iapply (known_reached X K (tgt j c) (rcv j)); iexact HK

/-- The wait for a send or a receive, owing nothing: what it hands over. -/
theorem step_wait (c : Dev nD) (b : Bool × Fin 3) (q : DmaSem sig) (hq : ownSem b = .dma q)
    {s : Shape} {e : EltTy} {sp sp' : Space} {src : Memref sig .tc sp s e} {dst : Memref sig .tc sp' s e}
    {hsrc : src.view.WordExact} {hdst : dst.view.WordExact} (hN : dst.view.dmaCredit = N)
    {α : Type} {Q : α → sProp 𝕄} {k : PUnit → Prog (TpuEff nD τ sig (Elt F) Λ₀ .tc) α} (W : Waits sig Unit) :
    iprop(known X K ∗ cred (tallyAt (cell c (some b)) () N) ∗ owes (c : Thread nD τ) 0 W ∗ atPos EX (cell c (some b)) 0 ∅ 0)
      ⊢ iprop(((owes (c : Thread nD τ) 0 (insert (semOf (some b), ()) W) ∗ atPos EX (cell c (some b)) 1 ∅ 0
            ∗ payOf X c 0 (some (some b))) -∗ runs c (k ⟨⟩) Q)
          -∗ runs c (.op (.waitDma2 q src dst hsrc hdst) k) Q) := by
  iintro ⟨#HK, Hc, HO, Hat⟩ Hk
  iapply (Rounds.wp_wait_rest_token noVariants EX (sched X) (c : Thread nD τ) none (κ := K (c, some b)) (sm := semOf (some b)) (k' := N)
      (fun Kt => by
        rw [wpE_waitDma2_eq noVariants (c : Thread nD τ) none Set.univ, hN, ← hq])
      (Set.mem_univ _) () (O := 0) (W := W) (R := 0) (m := 0) (T := ∅)
      (by rw [expect_own, Nat.zero_add])) $$ [Hc HO Hat]
  · isplitr; · iapply (known_inv X K c (some b)); iexact HK
    isplitl [Hc]; · iexact Hc
    isplitl [HO]; · iexact HO
    isplitr; · rw [MayWait_zero]; iempintro
    iexact Hat
  iintro ⟨HO, Hat, -, Hp⟩
  ihave Hp' := (Entails.of_eq (rest_own X c b)) $$ Hp
  iapply Hk
  isplitl [HO]; · iexact HO
  isplitl [Hat]; · iexact Hat
  iexact Hp'

omit [FloatOps F] in
/-- A semaphore whose round is over is at zero for good. -/
theorem step_close (c : Dev nD) (k : Role) :
    iprop(known X K ∗ atPos EX (cell c k) 1 ∅ 0) ⊢ |={Set.univ}=> semVal (cell c k) 0 := by
  iintro ⟨#HK, Hat⟩
  iapply (Rounds.cell_close EX (sched X) (Set.mem_univ (K (c, k))) (fun h => h) (R := 1) (duties_after X (cell c k)))
  isplitr; · iapply (known_inv X K c k); iexact HK
  iexact Hat

end Cert.AllToAll

end
-- ==== Proof.Body.lean ====
/-
# One device's run of the kernel

What device `c` holds when its body starts, what it holds when it ends, and the body's run between the two.
-/
module

public import proofs.«01_k».proof.Proof.Steps
public import proofs.«01_k».proof.Proof.Gen.KernelIdeal.Skeleton
public import proofs.«01_k».proof.Proof.Gen.KernelIdeal.Launch
public import Idealize.ShloMosaic.Lib.Pipeline.Value

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (m : (ℓ : Loc nD τ sig) → Buf (Elt F) ℓ)

/-- Device `c`'s argument, as staged. -/
def argOf (c : Dev nD) : S1024x2048.Idx → Elt F .bf16 :=
  (win0_0.blk (0 : Fin 1)).view.read (Elt F) (m ((c : Thread nD τ).loc main_arg0))

/-! ## Before and after -/

section Ghost

variable (X : Dev nD → S1024x2048.Idx → Elt F .bf16) (K : Dev nD × Role → ℕ)

/-- What device `c` spends on its transfer `j`: the rights to signal the target, to land there and to count the send,
    and its place at its own two semaphores. -/
def kit (c : Dev nD) (j : Fin 3) : sProp 𝕄 :=
  iprop(dutyTok EX (cell (tgt j c) bar) 0 j ∗ dutyTok EX (cell (tgt j c) (rcv j)) 0 0 ∗ dutyTok EX (cell c (snd j)) 0 0
    ∗ atPos EX (cell c (snd j)) 0 ∅ 0 ∗ atPos EX (cell c (rcv j)) 0 ∅ 0)

def ghost (c : Dev nD) : sProp 𝕄 :=
  iprop(known X K ∗ atPos EX (cell c bar) 0 ∅ 0 ∗ kit c 0 ∗ kit c 1 ∗ kit c 2)

/-- The credit to wait with: three units at the barrier, one block at each receive. -/
def credits (c : Dev nD) : sProp 𝕄 :=
  iprop(cred (tallyAt (cell c bar) () 3) ∗ cred (tallyAt (cell c (rcv 0)) () N) ∗ cred (tallyAt (cell c (rcv 1)) () N)
    ∗ cred (tallyAt (cell c (rcv 2)) () N))

def start (c : Dev nD) : sProp 𝕄 := iprop((∃ K, ghost X K c) ∗ credits c ∗ levAts waitable rank)

/-- The scratch copy, whole. -/
def scratch (c : Dev nD) (f : S1024x2048.Idx → Elt F .bf16) : sProp 𝕄 := ((c : Thread nD τ).loc cc0_scratch0) ↦{fullShare} f

/-- A transfer's two semaphores, back at zero. -/
def spent (c : Dev nD) (j : Fin 3) : sProp 𝕄 := iprop(semVal (cell c (snd j)) 0 ∗ semVal (cell c (rcv j)) 0)

def before (c : Dev nD) : sProp 𝕄 := iprop(start X c ∗ ∃ f, scratch c f)
def after (c : Dev nD) : sProp 𝕄 :=
  iprop(scratch c (X c) ∗ semVal (cell c bar) 0 ∗ spent c 0 ∗ spent c 1 ∗ spent c 2)

end Ghost

/-- The data of the staging around the body: the argument stays, the result is the exchange's; the debts are settled. -/
def dats (ρ : Dev nD → PrngReg) (_ : Fin 1) (c : Dev nD) : Dat τ (Elt F) Unit ℕ UA ℕ cfg0 c where
  A w := (s₀ m ρ).mem ((cfg0.win w).arr.view.loc (c : Thread nD τ))
  after w _ := match w with
    | ⟨0, _⟩ => argOf m c
    | ⟨1, _⟩ => gathered (argOf m) c
  Φ t := match t with
    | ⟨0, _⟩ => before (argOf m) c
    | ⟨_ + 1, _⟩ => after (argOf m) c
  q _ := fullShare
  owed t := match t with
    | ⟨0, _⟩ => left6 c
    | ⟨_ + 1, _⟩ => 0

variable (ρ : Dev nD → PrngReg)

/-! ## Whole reads and writes -/

omit [FloatOps F] in
theorem origin : (![0, 0] : Fin 2 → Nat) = fun _ => 0 := funext (Fin.forall_fin_two.mpr ⟨rfl, rfl⟩)

abbrev wholeArg : Rect S1024x2048 := Rect.unit (s := S1024x2048) ![0, 0] S1024x2048.size inb_S1024x2048_S1024x2048_0_0

omit [FloatOps F] in
theorem read_arg (f : S1024x2048.Idx → Elt F .bf16) : argM.view.readAt (Elt F) wholeArg.toLoadRect f = f :=
  Memref.readAt_unit_zero (Elt F) cc0_stg0_0 origin _ f

omit [FloatOps F] in
theorem write_scr (f w : S1024x2048.Idx → Elt F .bf16) : (scrM.access wholeArg).write (Elt F) f w Finset.univ = w :=
  Memref.write_access_unit_zero_univ (Elt F) cc0_scratch0 origin _ f w

theorem pay_eq (v : S1024x2048.Idx → Elt F .bf16) : k0_pay1 (F := F) v = v := by
  unfold k0_pay1
  exact (shapeCast_self _ _).trans (shapeCast_self _ _)

omit [FloatOps F] in
theorem ownCols_on (c : Dev nD) : scrM.view.setOn (ownCols c).toLoadRect.set ⊆ colBlk (zOf c) := by
  rw [← ownCols_set]
  intro i hi
  obtain ⟨x, hx, rfl⟩ := Finset.mem_map.mp hi
  exact hx

omit [FloatOps F] in
theorem ownRows_load (c : Dev nD) : outM.view.setOn (ownRows c).toLoadRect.set ⊆ rowBlk (zOf c) := by
  rw [← ownRows_set]
  intro i hi
  obtain ⟨x, hx, rfl⟩ := Finset.mem_map.mp hi
  exact (View.set_slice_whole cc0_stg1_0 (ownRows c)).symm ▸ hx

omit [FloatOps F] in
theorem ownRows_store (c : Dev nD) : (outM.access (ownRows c)).setOn Finset.univ ⊆ rowBlk (zOf c) := by
  rw [← ownRows_set]; exact Finset.Subset.refl _

/-! ## The run -/

/-- A staging buffer holding `f`. -/
abbrev staged (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

/-- The program, on its buffers. -/
abbrev program : Prog (TpuEff nD τ sig (Elt F) Λ₀ .tc) PUnit :=
  cc0_body argM (Memref.isWhole_whole _) outM (Memref.isWhole_whole _) scrM (Memref.isWhole_whole _) cc0_scratch1 cc0_scratch2

variable (X : Dev nD → S1024x2048.Idx → Elt F .bf16) (K : Dev nD × Role → ℕ)

omit [FloatOps F] in
theorem sent_back (c : Dev nD) (j : Fin 3) : payOf X c 0 (snd j) = scrPart c (zOf (tgt j c)) (X c) := rfl

omit [FloatOps F] in
theorem arrived (c : Dev nD) (j k : Fin 3) (hk : j.rev = k) : payOf X c 0 (rcv j) = outPart c (zOf (tgt k c)) (gathered X c) := by
  subst hk; rfl

set_option maxHeartbeats 4000000 in
/-- The program, effect by effect. -/
theorem program_runs (c : Dev nD) (W : Waits sig Unit) (f0 : S1024x2048.Idx → Elt F .bf16) (f1 : S4096x512.Idx → Elt F .bf16)
    (Q : PUnit → sProp 𝕄) :
    iprop(ghost X K c ∗ credits c ∗ levAts waitable rank ∗ scratch c f0 ∗ owes (c : Thread nD τ) (left6 c) W
        ∗ (((c : Thread nD τ).loc cc0_stg0_0) ↦{fullShare} X c) ∗ (((c : Thread nD τ).loc cc0_stg1_0) ↦{fullShare} f1)
        ∗ ((after X c ∗ (∃ W', owes (c : Thread nD τ) 0 W') ∗ (((c : Thread nD τ).loc cc0_stg0_0) ↦{fullShare} X c)
            ∗ (((c : Thread nD τ).loc cc0_stg1_0) ↦{fullShare} gathered X c)) -∗ Q ⟨⟩))
      ⊢ runs c program Q := by
  simp only [program, cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, runs, wp_deviceId]
  unfold ghost credits kit
  iintro ⟨⟨#HK, HaB, ⟨HtB0, HtR0, HtS0, HaS0, HaR0⟩, ⟨HtB1, HtR1, HtS1, HaS1, HaR1⟩, ⟨HtB2, HtR2, HtS2, HaS2, HaR2⟩⟩,
    ⟨HcB, HcR0, HcR1, HcR2⟩, #Hl, Hscr, HO, Hx, Hout, Hk⟩
  ihave Hout := (Entails.of_eq (out_cut c f1)) $$ Hout
  icases Hout with ⟨Hown, Ho0, Ho1, Ho2⟩
  -- the three signals
  iapply (step_signal X K c _ 0 (dev1_eq c) _ (by decide) (left6 c) (left5 c) rfl W f1) $$ [HO HtB0 Ho0]
  · isplitr; · iexact HK
    isplitl [HO]; · iexact HO
    isplitl [HtB0] <;> iassumption
  iintro HO
  iapply (step_signal X K c _ 1 (dev2_eq c) _ (by decide) (left5 c) (left4 c) rfl W f1) $$ [HO HtB1 Ho1]
  · isplitr; · iexact HK
    isplitl [HO]; · iexact HO
    isplitl [HtB1] <;> iassumption
  iintro HO
  iapply (step_signal X K c _ 2 (dev3_eq c) _ (by decide) (left4 c) (left3 c) rfl W f1) $$ [HO HtB2 Ho2]
  · isplitr; · iexact HK
    isplitl [HO]; · iexact HO
    isplitl [HtB2] <;> iassumption
  iintro HO
  -- the barrier
  iapply (step_barrier X K c _ (by decide) W) $$ [HcB HO HaB]
  · isplitr; · iexact HK
    isplitl [HcB]; · iexact HcB
    isplitl [HO]; · iexact HO
    isplitr; · iexact Hl
    iexact HaB
  iintro ⟨HO, HaB, Hr2, Hr1, Hr0⟩
  -- the copy to scratch
  unfold scratch
  iapply (wp_load noVariants (c : Thread nD τ) none Set.univ (m := argM) (Finset.subset_univ _)) $$ Hx; iintro Hx
  iapply (wp_load noVariants (c : Thread nD τ) none Set.univ (m := scrM) (Finset.subset_univ _)) $$ Hscr; iintro Hscr
  iapply (wp_store noVariants (c : Thread nD τ) none Set.univ (m := scrM) (r := wholeArg) (Mk := Finset.univ) (Finset.subset_univ _)) $$ Hscr
  iintro Hscr
  rw [read_arg, write_scr, pay_eq]
  ihave Hscr := (Entails.of_eq (scr_cut c (X c))) $$ Hscr
  icases Hscr with ⟨Hc, Hc0, Hc1, Hc2⟩
  -- the three transfers
  iapply (step_send X K c _ 0 (dev4_eq c) (left3 c) (left2 c) rfl _) $$ [Hc0 Hr0 HO HtS0 HtR0]
  · isplitr; · iexact HK
    isplitl [Hc0]; · iexact Hc0
    isplitl [Hr0]; · iexact Hr0
    isplitl [HO]; · iexact HO
    isplitl [HtS0] <;> iassumption
  iintro ⟨HcS0, HO⟩
  iapply (step_send X K c _ 1 (dev5_eq c) (left2 c) (left1 c) rfl _) $$ [Hc1 Hr1 HO HtS1 HtR1]
  · isplitr; · iexact HK
    isplitl [Hc1]; · iexact Hc1
    isplitl [Hr1]; · iexact Hr1
    isplitl [HO]; · iexact HO
    isplitl [HtS1] <;> iassumption
  iintro ⟨HcS1, HO⟩
  iapply (step_send X K c _ 2 (dev6_eq c) (left1 c) 0 rfl _) $$ [Hc2 Hr2 HO HtS2 HtR2]
  · isplitr; · iexact HK
    isplitl [Hc2]; · iexact Hc2
    isplitl [Hr2]; · iexact Hr2
    isplitl [HO]; · iexact HO
    isplitl [HtS2] <;> iassumption
  iintro ⟨HcS2, HO⟩
  -- the device's own block
  unfold scrPart outPart
  iapply (wp_load noVariants (c : Thread nD τ) none Set.univ (m := scrM) (ownCols_on c)) $$ Hc; iintro Hc
  iapply (wp_load noVariants (c : Thread nD τ) none Set.univ (m := outM) (ownRows_load c)) $$ Hown; iintro Hown
  iapply (wp_store noVariants (c : Thread nD τ) none Set.univ (m := outM) (r := ownRows c) (Mk := Finset.univ) (ownRows_store c)) $$ Hown
  iintro Hown
  -- the six waits
  iapply (step_wait X K c (false, 0) (sendS 0) rfl (by rfl) _) $$ [HcS0 HO HaS0]
  · isplitr; · iexact HK
    isplitl [HcS0]; · iexact HcS0
    isplitl [HO] <;> iassumption
  iintro ⟨HO, HaS0, Hs0⟩
  iapply (step_wait X K c (true, 0) (recvS 0) rfl (by rfl) _) $$ [HcR0 HO HaR0]
  · isplitr; · iexact HK
    isplitl [HcR0]; · iexact HcR0
    isplitl [HO] <;> iassumption
  iintro ⟨HO, HaR0, Hg0⟩
  iapply (step_wait X K c (false, 1) (sendS 1) rfl (by rfl) _) $$ [HcS1 HO HaS1]
  · isplitr; · iexact HK
    isplitl [HcS1]; · iexact HcS1
    isplitl [HO] <;> iassumption
  iintro ⟨HO, HaS1, Hs1⟩
  iapply (step_wait X K c (true, 1) (recvS 1) rfl (by rfl) _) $$ [HcR1 HO HaR1]
  · isplitr; · iexact HK
    isplitl [HcR1]; · iexact HcR1
    isplitl [HO] <;> iassumption
  iintro ⟨HO, HaR1, Hg1⟩
  iapply (step_wait X K c (false, 2) (sendS 2) rfl (by rfl) _) $$ [HcS2 HO HaS2]
  · isplitr; · iexact HK
    isplitl [HcS2]; · iexact HcS2
    isplitl [HO] <;> iassumption
  iintro ⟨HO, HaS2, Hs2⟩
  iapply (step_wait X K c (true, 2) (recvS 2) rfl (by rfl) _) $$ [HcR2 HO HaR2]
  · isplitr; · iexact HK
    isplitl [HcR2]; · iexact HcR2
    isplitl [HO] <;> iassumption
  iintro ⟨HO, HaR2, Hg2⟩
  -- the seven semaphores, at zero again
  imod (step_close X K c bar) $$ [HaB] with HzB
  · isplitr <;> iassumption
  imod (step_close X K c (snd 0)) $$ [HaS0] with HzS0
  · isplitr <;> iassumption
  imod (step_close X K c (rcv 0)) $$ [HaR0] with HzR0
  · isplitr <;> iassumption
  imod (step_close X K c (snd 1)) $$ [HaS1] with HzS1
  · isplitr <;> iassumption
  imod (step_close X K c (rcv 1)) $$ [HaR1] with HzR1
  · isplitr <;> iassumption
  imod (step_close X K c (snd 2)) $$ [HaS2] with HzS2
  · isplitr <;> iassumption
  imod (step_close X K c (rcv 2)) $$ [HaR2] with HzR2
  · isplitr <;> iassumption
  rw [wp_ret]; imodintro
  iapply Hk
  unfold after spent scratch
  isplitl [Hc Hs0 Hs1 Hs2 HzB HzS0 HzR0 HzS1 HzR1 HzS2 HzR2]
  · isplitl [Hc Hs0 Hs1 Hs2]
    · iapply (Entails.of_eq (scr_cut c (X c)).symm)
      isplitl [Hc]; · unfold scrPart; iexact Hc
      isplitl [Hs0]; · iapply (Entails.of_eq (sent_back X c 0)); iexact Hs0
      isplitl [Hs1]; · iapply (Entails.of_eq (sent_back X c 1)); iexact Hs1
      iapply (Entails.of_eq (sent_back X c 2)); iexact Hs2
    isplitl [HzB]; · iexact HzB
    isplitl [HzS0 HzR0]
    · isplitl [HzS0] <;> iassumption
    isplitl [HzS1 HzR1]
    · isplitl [HzS1] <;> iassumption
    isplitl [HzS2] <;> iassumption
  isplitl [HO]; · iexists _; iexact HO
  isplitl [Hx]; · iexact Hx
  iapply (Entails.of_eq (out_cut c (gathered X c)).symm)
  isplitl [Hown]
  · iapply (Entails.of_eq (outPart_congr c (zOf c) fun i hi => kept_eq X c f1 i hi)); unfold outPart; iexact Hown
  isplitl [Hg2]; · iapply (Entails.of_eq (arrived X c 2 0 rfl)); iexact Hg2
  isplitl [Hg1]; · iapply (Entails.of_eq (arrived X c 1 1 rfl)); iexact Hg1
  iapply (Entails.of_eq (arrived X c 0 2 rfl)); iexact Hg0

end Cert.AllToAll

end
-- ==== Proof.Staged.lean ====
/-
# The body between its stagings

The body's run, in the terms the staging asks of it: from the staged argument and the opening resources to the staged
result and the closing ones.
-/
module

public import proofs.«01_k».proof.Proof.Body

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (m : (ℓ : Loc nD τ sig) → Buf (Elt F) ℓ) (ρ : Dev nD → PrngReg)

omit [FloatOps F] in
/-- Owning a whole staging buffer at contents `f`. -/
theorem owns_staged (c : Dev nD) (b : Ref sig .tc) (f : b.ty.Contents (Elt F)) :
    (owns (Ix := Unit) (Name := ℕ) (U := UA) (Lvl := ℕ) (c : Thread nD τ) (Memref.whole b) fullShare f : sProp 𝕄) = staged c b f := by
  unfold owns staged
  simp only [Memref.view_whole, View.read_whole, View.set_whole]

/-- The argument's staging buffer, as the body finds it. -/
theorem arg_staged (c : Dev nD) (d) : (dats m ρ 0 c).before (0 : Fin 2) t0_0 d = argOf m c := by
  unfold Dat.before
  rw [if_pos (show (cfg0.win (0 : Fin 2)).fetch t0_0 = true from rfl)]
  rfl

/-- Before the body, window by window. -/
def opening (c : Dev nD) : sProp 𝕄 :=
  iprop(before (argOf m) c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

/-- After it. -/
def closing (c : Dev nD) : sProp 𝕄 :=
  iprop(after (argOf m) c ∗ (dats m ρ 0 c).owesAt () t0_0.succ ∗ staged c cc0_stg0_0 (argOf m c)
    ∗ staged c cc0_stg1_0 (gathered (argOf m) c))

theorem body_staged (c : Dev nD) : opening m ρ c ⊢ runs c program fun _ => closing m ρ c := by
  unfold opening before start
  iintro ⟨⟨⟨⟨%K, Hg⟩, Hcr, Hl⟩, ⟨%f0, Hs⟩⟩, Ho, ⟨%d0, %g0, %hg0, Hx⟩, ⟨%d1, %g1, -, Hout⟩⟩
  rw [arg_staged] at hg0
  subst hg0
  unfold Dat.owesAt Pipeline.owesWithin
  icases Ho with ⟨%W, -, HO⟩
  rw [show (dats m ρ 0 c).owed t0_0.castSucc = left6 c from rfl]
  iapply (program_runs (argOf m) K c W f0 g1 fun _ => closing m ρ c)
  isplitl [Hg]; · iexact Hg
  isplitl [Hcr]; · iexact Hcr
  isplitl [Hl]; · iexact Hl
  isplitl [Hs]; · iexact Hs
  isplitl [HO]; · iexact HO
  isplitl [Hx]; · iexact Hx
  isplitl [Hout]; · iexact Hout
  iintro ⟨Ha, ⟨%W', HO⟩, Hx, Hout⟩
  unfold closing Dat.owesAt Pipeline.owesWithin
  rw [show (dats m ρ 0 c).owed t0_0.succ = 0 from rfl]
  isplitl [Ha]; · iexact Ha
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
theorem body_obligation (c : Dev nD) : BodyObligation (dats (F := F) m ρ 0 c) (defs₀ (F := F)) noVariants () Set.univ := fun t => by
  rw [fin_N0 t, bigSep_W0, bigSep_W0]
  simp only [owns_staged]
  exact body_staged m ρ c

end Cert.AllToAll

end
-- ==== Proof.Tokens.lean ====
/-
# Dealing the exchange's resources

The launch makes each semaphore's rights where the semaphore is; a device spends rights at its targets' semaphores. Here
they are made, recorded for everyone, and dealt along the lines; then the credit each device may wait with.
-/
module

public import proofs.«01_k».proof.Proof.Body

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UA ℕ

/-! ## What is made -/

def allCells : Finset (GSem nD τ sig) :=
  Finset.univ.map ⟨fun ck : Dev nD × Role => cell ck.1 ck.2, fun _ _ h => Prod.ext (cell_inj h).1 (cell_inj h).2⟩

/-- The contributions to device `c`'s semaphores: transfer `j`'s unit to its barrier, its send, its arrival. -/
abbrev rightOf (c : Dev nD) : Fin 3 × Option Bool → GSem nD τ sig × ℕ × Fin 3
  | (j, none) => (cell c bar, 0, j)
  | (j, some b) => (cell c (some (b, j)), 0, 0)

theorem right_cell (c : Dev nD) (j : Fin 3) (b : Option Bool) : ∃ k, (rightOf c (j, b)).1 = cell c k := by
  cases b <;> exact ⟨_, rfl⟩

theorem rightOf_injective : Function.Injective fun x : Dev nD × (Fin 3 × Option Bool) => rightOf x.1 x.2 := by
  rintro ⟨c, j, b⟩ ⟨c', j', b'⟩ h
  obtain ⟨k, hk⟩ := right_cell c j b
  obtain ⟨k', hk'⟩ := right_cell c' j' b'
  have h1 : (rightOf c (j, b)).1 = (rightOf c' (j', b')).1 := congrArg Prod.fst h
  have hc : c = c' := (cell_inj (hk.symm.trans (h1.trans hk'))).1
  subst hc
  have h2 : (rightOf c (j, b)).2.2 = (rightOf c (j', b')).2.2 := congrArg (fun x => x.2.2) h
  cases b with
  | none =>
    cases b' with
    | none => rw [show j = j' from h2]
    | some b' => exact absurd (cell_inj h1).2 (by simp)
  | some b =>
    cases b' with
    | none => exact absurd (cell_inj h1).2 (by simp)
    | some b' =>
      have := (cell_inj h1).2
      rw [Option.some.injEq, Prod.mk.injEq] at this
      rw [this.1, this.2]

def allRights : Finset (GSem nD τ sig × ℕ × Fin 3) := Finset.univ.map ⟨_, rightOf_injective⟩

/-- The rights of transfer `j` at device `c`'s own semaphores. -/
def rights (c : Dev nD) (j : Fin 3) : sProp 𝕄 :=
  iprop(dutyTok EX (cell c bar) 0 j ∗ dutyTok EX (cell c (snd j)) 0 0 ∗ dutyTok EX (cell c (rcv j)) 0 0)

theorem by_role (Φ : Role → sProp 𝕄) :
    bigSep Finset.univ Φ = iprop(Φ bar ∗ Φ (snd 0) ∗ Φ (snd 1) ∗ Φ (snd 2) ∗ Φ (rcv 0) ∗ Φ (rcv 1) ∗ Φ (rcv 2)) :=
  bigSep_univ_eq_bigSepL [bar, snd 0, snd 1, snd 2, rcv 0, rcv 1, rcv 2] (by decide) (by decide) Φ

theorem by_kind (Φ : Option Bool → sProp 𝕄) : bigSep Finset.univ Φ = iprop(Φ none ∗ Φ (some false) ∗ Φ (some true)) :=
  bigSep_univ_eq_bigSepL [none, some false, some true] (by decide) (by decide) Φ

theorem over_cells (Φ : GSem nD τ sig → sProp 𝕄) :
    bigSep allCells Φ = bigSep Finset.univ fun c : Dev nD => bigSep Finset.univ fun k : Role => Φ (cell c k) := by
  unfold allCells
  rw [bigSep_map, bigSep_univ_prod]
  rfl

theorem over_rights :
    bigSep allRights (fun x => (dutyTok EX x.1 x.2.1 x.2.2 : sProp 𝕄))
      = bigSep Finset.univ fun c : Dev nD => bigSep Finset.univ fun j : Fin 3 => rights c j := by
  unfold allRights
  rw [bigSep_map, bigSep_univ_prod]
  refine bigSep_congr fun c _ => ?_
  rw [bigSep_univ_prod]
  refine bigSep_congr fun j _ => ?_
  rw [by_kind]
  rfl

variable (X : Dev nD → S1024x2048.Idx → Elt F .bf16)

/-- Device `c`'s share of what is made. -/
def made (c : Dev nD) : sProp 𝕄 :=
  iprop((bigSep Finset.univ fun k : Role => roundState EX (sched X) (cell c k) 0)
    ∗ (bigSep Finset.univ fun k : Role => reached EX (cell c k) 0)
    ∗ (bigSep Finset.univ fun k : Role => atPos EX (cell c k) 0 ∅ 0)
    ∗ bigSep Finset.univ fun j : Fin 3 => rights c j)

theorem make : BI.own (EX (initOf allCells allRights)) ⊢ (|==> bigSep Finset.univ (made X) : sProp 𝕄) := by
  iintro H
  imod (Rounds.fund EX (sched X) allCells allRights) $$ H with ⟨Hs, Hr, Ha, Ht⟩
  imodintro
  ihave Hs := (Entails.of_eq (over_cells fun g => roundState EX (sched X) g 0)) $$ Hs
  ihave Hr := (Entails.of_eq (over_cells fun g => reached EX g 0)) $$ Hr
  ihave Ha := (Entails.of_eq (over_cells fun g => atPos EX g 0 ∅ 0)) $$ Ha
  ihave Ht := (Entails.of_eq over_rights) $$ Ht
  unfold made
  simp only [bigSep_sep']
  isplitl [Hs]; · iexact Hs
  isplitl [Hr]; · iexact Hr
  isplitl [Ha] <;> iassumption

/-! ## Recording -/

theorem own_sems (c : Dev nD) :
    (Pipeline.ownSems0 (Ix := Unit) (Name := ℕ) (U := UA) (Lvl := ℕ) (Val := Elt F) (τ := τ) ownSem c : sProp 𝕄)
      = iprop(semVal (cell c (snd 0)) 0 ∗ semVal (cell c (snd 1)) 0 ∗ semVal (cell c (snd 2)) 0
        ∗ semVal (cell c (rcv 0)) 0 ∗ semVal (cell c (rcv 1)) 0 ∗ semVal (cell c (rcv 2)) 0) := by
  rw [Pipeline.ownSems0_eq_of_list c ownSem [(false, 0), (false, 1), (false, 2), (true, 0), (true, 1), (true, 2)] (by decide) (by decide)]
  rfl

theorem shared_sems (c : Dev nD) : (unscopedSems0 c : sProp 𝕄) = semVal (cell c bar) 0 := by
  unfold unscopedSems0
  rw [bigSep_eq_bigSepL_of_eq [SemLoc.reg barS] (by decide) (by decide)]
  rfl

/-- A device's semaphores at zero, with their rounds, become invariants. -/
theorem invariants (c : Dev nD) :
    iprop((bigSep Finset.univ fun k : Role => semVal (cell c k) 0) ∗ bigSep Finset.univ fun k : Role => roundState EX (sched X) (cell c k) 0)
      ⊢ (|={Set.univ}=> bigSep Finset.univ fun k : Role => iprop(∃ κ : ℕ, cellInv EX (sched X) κ (cell c k)) : sProp 𝕄) := by
  rw [← bigSep_sep']
  exact (bigSep_mono fun k _ => (Rounds.body_intro EX (sched X) (cell c k)).trans inv_alloc).trans (bigSep_fupd _ _)

/-- A device's share, its semaphores under invariants. -/
def kept (c : Dev nD) : sProp 𝕄 :=
  iprop((bigSep Finset.univ fun k : Role => iprop(∃ κ : ℕ, cellInv EX (sched X) κ (cell c k)))
    ∗ (bigSep Finset.univ fun k : Role => reached EX (cell c k) 0)
    ∗ (bigSep Finset.univ fun k : Role => atPos EX (cell c k) 0 ∅ 0)
    ∗ bigSep Finset.univ fun j : Fin 3 => rights c j)

theorem keep (c : Dev nD) :
    iprop(Pipeline.ownSems0 (Ix := Unit) (Name := ℕ) (U := UA) (Lvl := ℕ) (Val := Elt F) (τ := τ) ownSem c ∗ unscopedSems0 c ∗ made X c)
      ⊢ |={Set.univ}=> kept X c := by
  rw [own_sems, shared_sems]
  unfold made kept
  iintro ⟨Ho, Hb, Hs, Hrest⟩
  imod (invariants X c) $$ [Ho Hb Hs] with Hi
  · isplitr [Hs]
    · rw [by_role]
      isplitl [Hb] <;> iassumption
    iexact Hs
  imodintro
  isplitl [Hi] <;> iassumption

/-! ## Dealing -/

/-- A device's place at its semaphores and the rights it spends. -/
def dealt (c : Dev nD) : sProp 𝕄 :=
  iprop((bigSep Finset.univ fun k : Role => atPos EX (cell c k) 0 ∅ 0)
    ∗ bigSep Finset.univ fun j : Fin 3 =>
      iprop(dutyTok EX (cell (tgt j c) bar) 0 j ∗ dutyTok EX (cell c (snd j)) 0 0 ∗ dutyTok EX (cell (tgt j c) (rcv j)) 0 0))

theorem deal_one (j : Fin 3) :
    (bigSep Finset.univ fun c : Dev nD => (rights c j : sProp 𝕄))
      = bigSep Finset.univ fun c : Dev nD =>
        iprop(dutyTok EX (cell (tgt j c) bar) 0 j ∗ dutyTok EX (cell c (snd j)) 0 0 ∗ dutyTok EX (cell (tgt j c) (rcv j)) 0 0) := by
  unfold rights
  rw [bigSep_sep', bigSep_sep', bigSep_sep', bigSep_sep',
    bigSep_univ_equiv (along j) (fun c : Dev nD => (dutyTok EX (cell c bar) 0 j : sProp 𝕄)),
    bigSep_univ_equiv (along j) (fun c : Dev nD => (dutyTok EX (cell c (rcv j)) 0 0 : sProp 𝕄))]
  rfl

theorem deal :
    (bigSep Finset.univ fun c : Dev nD => bigSep Finset.univ fun j : Fin 3 => (rights c j : sProp 𝕄))
      = bigSep Finset.univ fun c : Dev nD => bigSep Finset.univ fun j : Fin 3 =>
        iprop(dutyTok EX (cell (tgt j c) bar) 0 j ∗ dutyTok EX (cell c (snd j)) 0 0 ∗ dutyTok EX (cell (tgt j c) (rcv j)) 0 0) := by
  have three (Φ : Dev nD → Fin 3 → sProp 𝕄) : (bigSep Finset.univ fun c => bigSep Finset.univ (Φ c))
      = iprop((bigSep Finset.univ fun c => Φ c 0) ∗ (bigSep Finset.univ fun c => Φ c 1) ∗ bigSep Finset.univ fun c => Φ c 2) := by
    rw [bigSep_congr fun c _ => bigSep_three (Φ c), bigSep_sep', bigSep_sep']
  rw [three, three, deal_one 0, deal_one 1, deal_one 2]

theorem ghost_of_dealt (K : Dev nD × Role → ℕ) (c : Dev nD) : iprop(known X K ∗ dealt c) ⊢ iprop(∃ K, ghost X K c) := by
  unfold dealt ghost kit
  rw [by_role, bigSep_three]
  iintro ⟨#HK, ⟨HaB, HaS0, HaS1, HaS2, HaR0, HaR1, HaR2⟩, H⟩
  icases H with ⟨⟨HtB0, HtS0, HtR0⟩, ⟨HtB1, HtS1, HtR1⟩, ⟨HtB2, HtS2, HtR2⟩⟩
  iexists K
  isplitr; · iexact HK
  isplitl [HaB]; · iexact HaB
  isplitl [HtB0 HtR0 HtS0 HaS0 HaR0]
  · isplitl [HtB0]; · iexact HtB0
    isplitl [HtR0]; · iexact HtR0
    isplitl [HtS0]; · iexact HtS0
    isplitl [HaS0] <;> iassumption
  isplitl [HtB1 HtR1 HtS1 HaS1 HaR1]
  · isplitl [HtB1]; · iexact HtB1
    isplitl [HtR1]; · iexact HtR1
    isplitl [HtS1]; · iexact HtS1
    isplitl [HaS1] <;> iassumption
  isplitl [HtB2]; · iexact HtB2
  isplitl [HtR2]; · iexact HtR2
  isplitl [HtS2]; · iexact HtS2
  isplitl [HaS2] <;> iassumption

theorem ghosts (K : Dev nD × Role → ℕ) :
    iprop(known X K ∗ bigSep Finset.univ fun c : Dev nD => (dealt c : sProp 𝕄)) ⊢ bigSep Finset.univ fun c : Dev nD => iprop(∃ K, ghost X K c) := by
  refine (sep_mono_left (BI.bigSep_of_persistent (Finset.univ : Finset (Dev nD)) (known X K))).trans ?_
  rw [← bigSep_sep']
  exact bigSep_mono fun c _ => ghost_of_dealt X K c

theorem spread : (bigSep Finset.univ (kept X) : sProp 𝕄) ⊢ bigSep Finset.univ fun c : Dev nD => iprop(∃ K, ghost X K c) := by
  unfold kept
  rw [bigSep_sep', bigSep_sep', bigSep_sep', deal,
    ← bigSep_univ_prod (fun ck : Dev nD × Role => iprop(∃ κ : ℕ, cellInv EX (sched X) κ (cell ck.1 ck.2))),
    ← bigSep_univ_prod (fun ck : Dev nD × Role => (reached EX (cell ck.1 ck.2) 0 : sProp 𝕄))]
  iintro ⟨HI, #HR, Ha, Ht⟩
  ihave HI := (BI.bigSep_exists_pi Finset.univ (fun (ck : Dev nD × Role) (κ : ℕ) => (cellInv EX (sched X) κ (cell ck.1 ck.2) : sProp 𝕄))) $$ HI
  icases HI with ⟨%K, #HI⟩
  iapply (ghosts X K)
  isplitr
  · unfold known
    isplitl <;> iassumption
  unfold dealt
  rw [bigSep_sep']
  isplitl [Ha] <;> iassumption

/-- All devices' semaphores at zero and shares, at once, to all devices' opening resources. -/
theorem set_up :
    (bigSep Finset.univ fun c => iprop(Pipeline.ownSems0 (Ix := Unit) (Name := ℕ) (U := UA) (Lvl := ℕ) (Val := Elt F) (τ := τ) ownSem c
        ∗ unscopedSems0 c ∗ made X c) : sProp 𝕄)
      ⊢ |={Set.univ}=> bigSep Finset.univ fun c : Dev nD => iprop(∃ K, ghost X K c) :=
  ((bigSep_mono fun c _ => keep X c).trans (bigSep_fupd _ _)).trans (BI.fupd_mono (spread X))

/-! ## The credit to wait with -/

theorem unit_at (d : Dev nD) (j : Fin 3) (c : Dev nD) (k : Role) :
    owesUnit d j (cell c k) () = if d = tgt j.rev c then (if k = bar then 1 else 0) else 0 := by
  rw [tallyAt_apply, ← ite_and]
  refine if_congr ⟨fun h => ?_, fun h => ⟨?_, rfl⟩⟩ rfl rfl
  · have := cell_inj h.1
    exact ⟨(tgt_eq_iff j d c).mp this.1.symm, this.2⟩
  · rw [h.2, (tgt_eq_iff j d c).mpr h.1]

theorem arrival_at (d : Dev nD) (j : Fin 3) (c : Dev nD) (k : Role) :
    owesArrival d j (cell c k) () = if d = tgt j.rev c then (if k = rcv j then N else 0) else 0 := by
  rw [tallyAt_apply, ← ite_and]
  refine if_congr ⟨fun h => ?_, fun h => ⟨?_, rfl⟩⟩ rfl rfl
  · have := cell_inj h.1
    exact ⟨(tgt_eq_iff j d c).mp this.1.symm, this.2⟩
  · rw [h.2, (tgt_eq_iff j d c).mpr h.1]

/-- All that is owed to a semaphore. -/
theorem owed_to (c : Dev nD) (k : Role) :
    ∑ d, left6 d (cell c k) () = (∑ j, if k = rcv j then N else 0) + ∑ _j : Fin 3, if k = bar then 1 else 0 := by
  rw [Finset.sum_congr rfl fun d _ => left6_apply d (cell c k), Finset.sum_add_distrib, Finset.sum_comm,
    Finset.sum_comm (f := fun d j => owesUnit d j (cell c k) ())]
  refine congrArg₂ _ (Finset.sum_congr rfl fun j _ => ?_) (Finset.sum_congr rfl fun j _ => ?_)
  · rw [Finset.sum_congr rfl fun d _ => arrival_at d j c k, Finset.sum_ite_eq' Finset.univ (tgt j.rev c) fun _ => if k = rcv j then N else 0,
      if_pos (Finset.mem_univ _)]
  · rw [Finset.sum_congr rfl fun d _ => unit_at d j c k, Finset.sum_ite_eq' Finset.univ (tgt j.rev c) fun _ => if k = bar then 1 else 0,
      if_pos (Finset.mem_univ _)]

theorem owed_to_bar (c : Dev nD) : ∑ d, left6 d (cell c bar) () = 3 := by
  rw [owed_to, Fin.sum_univ_three, Fin.sum_univ_three]
  simp

theorem owed_to_rcv (c : Dev nD) (j : Fin 3) : ∑ d, left6 d (cell c (rcv j)) () = N := by
  rw [owed_to, Finset.sum_congr rfl fun i _ => if_congr (show rcv j = rcv i ↔ j = i by simp) rfl rfl,
    Finset.sum_ite_eq Finset.univ j fun _ => N, if_pos (Finset.mem_univ _)]
  simp

theorem credit_at (c : Dev nD) (k : Role) (n : ℕ) (h : ∑ d, left6 d (cell c k) () = n) :
    tallyOn (cell c k) (launchCredit (Pipeline.owing left6) 0 (cell c k)) = (tallyAt (cell c k) () n : CellTallies nD τ sig Unit) := by
  unfold tallyAt
  refine congrArg _ (Finsupp.ext fun u => ?_)
  cases u
  rw [Pipeline.launchCredit_owing, Finsupp.single_eq_same, h]

theorem credits_made (c : Dev nD) : (Pipeline.launchCred left6 c : sProp 𝕄) ⊢ credits c := by
  have all : (Pipeline.launchCred left6 c : sProp 𝕄)
      ⊢ bigSep Finset.univ fun k : Role => cred (tallyOn (cell c k) (launchCredit (Pipeline.owing left6) 0 (cell c k))) := by
    unfold Pipeline.launchCred
    exact (BI.bigSep_subset (Finset.subset_univ (Finset.univ.map ⟨semOf, semOf_injective⟩))).trans (Entails.of_eq (bigSep_map _))
  refine all.trans ?_
  unfold credits
  rw [by_role, credit_at c bar 3 (owed_to_bar c), credit_at c (rcv 0) N (owed_to_rcv c 0),
    credit_at c (rcv 1) N (owed_to_rcv c 1), credit_at c (rcv 2) N (owed_to_rcv c 2)]
  iintro ⟨Hb, -, -, -, Hr⟩
  isplitl [Hb] <;> iassumption

end Cert.AllToAll

end
-- ==== Proof.Launch.lean ====
/-
# The whole run

All devices' programs together: from any memory with every semaphore at zero, every run ends with each result array as
the exchange has it, each argument unchanged, and every semaphore at zero.
-/
module

public import proofs.«01_k».proof.Proof.Staged
public import proofs.«01_k».proof.Proof.Tokens
public import Idealize.ShloMosaic.Lib.Pipeline.Launch
public import Idealize.ShloMosaic.Lib.Pipeline.CollectiveSegs

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UA ℕ

variable (m : (ℓ : Loc nD τ sig) → Buf (Elt F) ℓ) (ρ : Dev nD → PrngReg)

abbrev stagingRights : Emb (UR sig nD τ) (MT nD τ sig Unit (Elt F) ℕ UA ℕ) := embL

/-- The rights made at the launch: the staging's, and the exchange's. -/
def made₀ : UA :=
  (initOf (Pipeline.cells cfgs cellOf_inj) (Pipeline.launchToks cfgs cellOf_inj), initOf allCells allRights)

theorem own_sem_facts : Pipeline.OwnSemFacts cfg0.spec ownSem := by decide

theorem share_full (c : Dev nD) (w : Fin cfg0.W) : (dats m ρ 0 c).share w = fullShare := by
  unfold Dat.share; split <;> rfl

omit [FloatOps F] in
theorem opens (c : Dev nD) :
    iprop(Pipeline.unscopedRestP Pipeline.Prefetch.none cfg0.spec c (fun b => m ((c : Thread nD τ).loc b)) ∗ levAts waitable rank
        ∗ Pipeline.launchCred left6 c ∗ prngReg c (ρ c) ∗ (∃ K, ghost (argOf m) K c))
      ⊢ |={Set.univ}=> iprop(start (argOf m) c ∗ emp) := by
  iintro ⟨-, Hl, Hc, -, Hg⟩
  ihave Hc := (credits_made (F := F) c) $$ Hc
  imodintro
  unfold start
  isplitr []
  · isplitl [Hg]; · iexact Hg
    isplitl [Hc] <;> iassumption
  iempintro

theorem enters (c : Dev nD) :
    iprop(start (argOf m) c ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = before (argOf m) c from rfl, scopedRest0_eq]
  unfold before scratch
  iintro ⟨Hs, -, ⟨%f, Hf⟩⟩
  isplitl [Hs]; · iexact Hs
  iexists f; iexact Hf

theorem leaves (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = after (argOf m) c from rfl, scopedRest0_eq, own_sems, shared_sems]
  unfold after spent scratch
  iintro ⟨Hf, Hb, ⟨Hs0, Hr0⟩, ⟨Hs1, Hr1⟩, ⟨Hs2, Hr2⟩⟩
  isplitl [Hb]; · iexact Hb
  isplitr [Hf]
  · isplitl [Hs0]; · iexact Hs0
    isplitl [Hs1]; · iexact Hs1
    isplitl [Hs2]; · iexact Hs2
    isplitl [Hr0]; · iexact Hr0
    isplitl [Hr1] <;> iassumption
  iexists (argOf m c); iexact Hf

/-- The staging may wait for its own copies, whatever the exchange owes. -/
theorem staging_waits (c : Dev nD) : (levAts waitable rank : sProp 𝕄) ⊢ Pipeline.cellsWaits cfgs (dats m ρ) () 0 c := by
  refine Pipeline.cellsWaits_intro cfgs (dats m ρ) () 0 c fun w s t => ?_
  obtain ⟨_ | n, ht⟩ := t
  · exact may_wait_low c _ (by revert w s; decide)
  · show _ ⊢ MayWait _ _ _ 0
    rw [MayWait_zero]; iintro -; iempintro

/-- Where the run ends: every window's array as staged out, every semaphore at zero. -/
def Ends (r : PUnit × MemSt nD τ sig (Elt F)) : Prop :=
  (∀ (c : Dev nD) (w : Fin cfg0.W), r.2.mem ((cfg0.win w).arr.view.loc (c : Thread nD τ)) = (dats m ρ 0 c).arrAt w cfg0.N)
    ∧ r.2.sem = fun _ => 0

set_option maxRecDepth 8000 in
theorem run_ends : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ own_sem_facts (Pipeline.PreFacts.none _) stagingRights defs₀ noVariants m ρ main
    (hmain := fun _ => rfl)
    (hbody := body_obligation m ρ) (hne := fun w => by fin_cases w <;> exact Nat.succ_pos _)
    (harr := arr_whole0) (hstage := stage_whole0) (hshare := share_full m ρ) (hdistinct := winFacts0.arr_inj)
    (O₀ := left6) (howed₀ := fun _ => rfl) (howedN := fun _ => rfl)
    (L := waitable) (lv := rank) (hL := waitable_else) (hwaits := staging_waits m ρ)
    (G := made (argOf m)) (G' := fun c => iprop(∃ K, ghost (argOf m) K c)) (u₀ := made₀)
    (hu₀ := by
      unfold made₀
      iintro Hu
      ihave H := (ownU_pair _ _) $$ Hu
      icases H with ⟨Hp, Hx⟩
      imod (make (argOf m)) $$ Hx with Hm
      imodintro
      isplitl [Hp] <;> iassumption)
    (hglob := set_up (argOf m))
    (hA := fun _ _ => rfl) (hpf := fun _ k => k.elim0)
    (X := start (argOf m)) (Y := fun c => unscopedSems0 c) (Z := fun _ => iprop(emp))
    (hX := opens m ρ) (hin := enters m ρ) (hout := leaves m ρ)
    (QY := fun c s => ∀ sm : SemLoc sig, sm.isScoped .tc = false → s.sem ((c.tc : Thread nD τ), sm) = 0)
    (hY := fun c s => by
      iintro ⟨Hu, -, HS⟩
      iapply (Pipeline.unscopedSems0_read (X := unscopedSems0 c) (c := c) fupd_intro s)
      isplitl [Hu] <;> iassumption)
    (hQ := fun _ h hs => ⟨fun c w => (h c).1 w, sem_eq_zero hs fun c => (h c).2.2⟩)

end Cert.AllToAll

end
-- ==== Proof.Value.lean ====
/-
# The exchange is a change of layout

Device `c` starts with its rows of an array and ends with its columns of the same array.
-/
module

public import proofs.«01_k».proof.Proof.Launch
public import Idealize.ShloMosaic.Lib.Layout

@[expose] public section

noncomputable section

namespace Cert.AllToAll

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## The arrays at the end -/

theorem arg_index : ∀ (t : Fin grid0.N) (a : Fin 2), win0_0.index t a = 0 := by decide +kernel
theorem result_index : ∀ (t : Fin grid0.N) (a : Fin 2), win0_1.index t a = 0 := by decide +kernel

theorem arg_emb (t : Fin grid0.N) (x : S1024x2048.Idx) : (win0_0.blk t).view.emb x = x :=
  funext fun a => Fin.ext (Pipeline.Window.rect_emb_val_of_index_zero win0_0 t a (arg_index t a) x)

theorem result_emb (t : Fin grid0.N) (x : S4096x512.Idx) : (win0_1.blk t).view.emb x = x :=
  funext fun a => Fin.ext (Pipeline.Window.rect_emb_val_of_index_zero win0_1 t a (result_index t a) x)

omit [FloatOps F] in
/-- What is staged is the whole argument. -/
theorem argOf_eq (c : Dev nD) : argOf m c = m ((c : Thread nD τ).loc main_arg0) :=
  funext fun x => congrArg (m ((c : Thread nD τ).loc main_arg0)) (arg_emb t0_0 x)

theorem written_back (c : Dev nD) (t : Fin cfg0.N) :
    (dats m ρ 0 c).flushed 1 t = ((cfg0.win 1).blk t).view.read (Elt F) (gathered (argOf m) c) :=
  funext fun x => congrArg (gathered (argOf m) c) (result_emb t x).symm

/-- The result array ends as the exchange's result. -/
theorem result_array (c : Dev nD) : (dats m ρ 0 c).arrAt 1 cfg0.N = gathered (argOf m) c :=
  (dats m ρ 0 c).arrAt_eq_of_cover 1 (gathered (argOf m) c) (fun t _ => written_back m ρ c t) fun i =>
    ⟨t0_0, rfl, Finset.mem_map.mpr ⟨i, Finset.mem_univ _, result_emb t0_0 i⟩⟩

/-- The argument array ends as it was. -/
theorem arg_array (c : Dev nD) : (dats m ρ 0 c).arrAt 0 cfg0.N = m ((c : Thread nD τ).loc main_arg0) :=
  (dats m ρ 0 c).arrAt_in 0 rfl _

/-! ## Rows to columns -/

variable {α : Type}

abbrev whole : Shape := ⟨2, ![4096, 2048]⟩
/-- Device `c`'s rows of an array, and its columns. -/
abbrev rowsOf (x : whole.Idx → α) (c : Dev nD) : S1024x2048.Idx → α :=
  Layout.blockN ⟨2, ![1024, 2048]⟩ whole (Layout.meshBlock [2, 4, 4] ![[2], []] c) x
abbrev colsOf (x : whole.Idx → α) (c : Dev nD) : S4096x512.Idx → α :=
  Layout.blockN ⟨2, ![4096, 512]⟩ whole (Layout.meshBlock [2, 4, 4] ![[], [2]] c) x

/-- The third coordinate of a device is its position in its line. -/
theorem third_coord : ∀ c : Dev nD, Layout.meshLin [2, 4, 4] c.val [2] = (zOf c).val := by decide

/-- If every device's argument is its rows of one array, every device's result is its columns of it. -/
theorem rows_to_cols (x : whole.Idx → α) (c : Dev nD) : gathered (rowsOf x) c = colsOf x c := by
  funext i
  have hz : (zOf (onLine c ⟨(i 0).val / 1024, from_row i⟩)).val = (i 0).val / 1024 := by rw [zOf_onLine]
  unfold gathered rowsOf colsOf
  rw [Layout.blockN_apply, Layout.blockN_apply]
  refine congrArg x (funext (Fin.forall_fin_two.mpr ⟨Fin.ext ?_, Fin.ext ?_⟩))
  · change Layout.meshLin [2, 4, 4] (onLine c ⟨(i 0).val / 1024, from_row i⟩).val [2] * 1024 + (i 0).val % 1024 = 0 * 4096 + (i 0).val
    rw [third_coord, hz]
    omega
  · change 0 * 2048 + (512 * (zOf c).val + (i 1).val) = Layout.meshLin [2, 4, 4] c.val [2] * 512 + (i 1).val
    rw [third_coord]
    omega

/-! ## The run, in those terms -/

/-- Every run leaves the exchange's result on each device, its argument as it was, and every semaphore at zero. -/
theorem run_value : θ_run defs (onTc (τ := τ) (main (F := F))) ⟨m, fun _ => 0, ρ⟩ fun r =>
    (∀ c : Dev nD, r.2.mem ((c.tc : Thread nD τ).loc main_v1) = gathered (fun d => m ((d.tc : Thread nD τ).loc main_arg0)) c
      ∧ r.2.mem ((c.tc : Thread nD τ).loc main_arg0) = m ((c.tc : Thread nD τ).loc main_arg0)) ∧ r.2.sem = fun _ => 0 :=
  (θ_run defs _ _).mono (fun _ h => ⟨fun c => ⟨((h.1 c 1).trans (result_array m ρ c)).trans
      (congrArg (fun X => gathered X c) (funext fun d => argOf_eq m d)), (h.1 c 0).trans (arg_array m ρ c)⟩, h.2⟩) (run_ends m ρ)

/-- The same run, told of the argument and the semaphores alone. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (h.1 c).2, h.2⟩) (run_value m ρ)

end Cert.AllToAll

end
-- ==== Proof.lean ====
/-
# The claims

From the run of the exchange on every device: its argument ends unchanged, its semaphores end at zero, and its result is
its columns of the array whose rows the devices started with.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Lib.Claim
public import Idealize.ShloMosaic.Lib.StableHlo.RunHlo
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two printings of the kernel's body agree. -/
theorem same_bodies : Cert.Kernel.defs₀ (F := Bits) = Cert.KernelIdeal.defs₀ (F := Bits) :=
  congrArg Defs.onTc (funext fun | 0 => rfl)

/-- So the two programs run the same code. -/
theorem same_code : Cert.Kernel.defs (F := Bits) = Cert.KernelIdeal.defs (F := Bits) :=
  congrArg (Pipeline.defs (Cert.KernelIdeal.pcfgs (F := Bits))) same_bodies

/-- The kernel over machine numbers: the same run, the same text. -/
theorem frame_bits : Cert.quiescent_Kernel := fun m g _ =>
  cast (congrArg (fun D => θ_run D (onTc (Cert.KernelIdeal.main (F := Bits))) ⟨m, fun _ => 0, g⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) same_code.symm)
    (Cert.AllToAll.run_frame (F := Bits) m g)

/-- The kernel over exact numbers. -/
theorem frame_ideal : Cert.quiescent_KernelIdeal := fun m g _ => Cert.AllToAll.run_frame (F := Ideal) m g

/-- The reference does nothing at all: its result is the array it is given. It declares no semaphore. -/
theorem frame_reference : Cert.quiescent_ReferenceIdeal := fun m g _ =>
  θ_run_mono
    (StableHlo.run_hlo (ops := []) Cert.ReferenceIdeal.defs Cert.ReferenceIdeal.main (fun _ => StableHlo.IsSeq.nil)
      (by decide) (by decide) trivial (fun _ h => absurd h List.not_mem_nil) m g)
    fun r h => ⟨fun c => h c Cert.ReferenceIdeal.main_arg0, sem_eq_zero_of_no_sems (by decide) r.2⟩

/-- Rows in, columns out. -/
theorem same_array : Cert.algebraic_KernelIdeal_ReferenceIdeal := fun m g m' g' _ hx =>
  ⟨m' (((0 : Dev Cert.ReferenceIdeal.nD).tc).loc Cert.ReferenceIdeal.main_arg0),
    θ_run_mono (Cert.AllToAll.run_value (F := Ideal) m g) fun _ h c =>
      ⟨(h.1 c).1.trans ((congrArg (fun X => Cert.AllToAll.gathered X c) (funext hx)).trans (Cert.AllToAll.rows_to_cols _ c)),
        (h.1 c).2⟩,
    θ_run_mono (frame_reference m' g' trivial) fun _ h => ⟨h.1 0, h.1 0⟩⟩

theorem claim : Cert.Claim := ⟨Cert.Kernel.Gen.facts, Cert.KernelIdeal.Gen.facts, Cert.ReferenceIdeal.Gen.facts,
  frame_bits, frame_ideal, frame_reference, trivial, same_array⟩

end Cert.Proof

end
